-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bank_apart [hPre_bank_apart : Cert.Pre_bank_apart.Facts] (m : (ℓ : Loc Cert.KernelIdeal.nD Cert.KernelIdeal.τ Cert.KernelIdeal.sig) → Buf (Elt Ideal) ℓ) : Prop :=
  ∀ c : Dev Cert.KernelIdeal.nD,
    (Cert.Pre_bank_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bank_apart [hPre_bank_apart : Cert.Pre_bank_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bank_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Scores (m : (ℓ : Loc Cert.Scores.nD Cert.Scores.τ Cert.Scores.sig) → Buf (Elt Bits) ℓ) : Prop :=
  True

def Pre_ScoresIdeal (m : (ℓ : Loc Cert.ScoresIdeal.nD Cert.ScoresIdeal.τ Cert.ScoresIdeal.sig) → Buf (Elt Ideal) ℓ) : Prop :=
  True

def Pre_ScoresRefIdeal (m : (ℓ : Loc Cert.ScoresRefIdeal.nD Cert.ScoresRefIdeal.τ Cert.ScoresRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_bank_apart [hKernelIdeal : Cert.KernelIdeal.Facts] [hPre_bank_apart : Cert.Pre_bank_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bank_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_bank_apart [hReferenceIdeal : Cert.ReferenceIdeal.Facts] [hPre_bank_apart : Cert.Pre_bank_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bank_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Scores [hScores : Cert.Scores.Facts] : Prop :=
  ∀ (m : (ℓ : Loc Cert.Scores.nD Cert.Scores.τ Cert.Scores.sig) → Buf (Elt Bits) ℓ) (g : Dev Cert.Scores.nD → PrngReg), Pre_Scores m →
    θ_run (Cert.Scores.defs (F := Bits)) (onTc (τ := Cert.Scores.τ) (Cert.Scores.main (F := Bits))) ⟨m, fun _ => 0, g⟩ (fun r => (∀ c : Dev Cert.Scores.nD,
      r.2.mem ((c.tc : Thread Cert.Scores.nD Cert.Scores.τ).loc Cert.Scores.main_arg0) = m ((c.tc : Thread Cert.Scores.nD Cert.Scores.τ).loc Cert.Scores.main_arg0)
      ∧ r.2.mem ((c.tc : Thread Cert.Scores.nD Cert.Scores.τ).loc Cert.Scores.main_arg1) = m ((c.tc : Thread Cert.Scores.nD Cert.Scores.τ).loc Cert.Scores.main_arg1))
      ∧ r.2.sem = fun _ => 0)

def quiescent_ScoresIdeal [hScoresIdeal : Cert.ScoresIdeal.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1))
      ∧ r.2.sem = fun _ => 0)

def quiescent_ScoresRefIdeal [hScoresRefIdeal : Cert.ScoresRefIdeal.Facts] : Prop :=
  ∀ (m : (ℓ : Loc Cert.ScoresRefIdeal.nD Cert.ScoresRefIdeal.τ Cert.ScoresRefIdeal.sig) → Buf (Elt Ideal) ℓ) (g : Dev Cert.ScoresRefIdeal.nD → PrngReg), Pre_ScoresRefIdeal m →
    θ_run (Cert.ScoresRefIdeal.defs (F := Ideal)) (onTc (τ := Cert.ScoresRefIdeal.τ) (Cert.ScoresRefIdeal.main (F := Ideal))) ⟨m, fun _ => 0, g⟩ (fun r => (∀ c : Dev Cert.ScoresRefIdeal.nD,
      r.2.mem ((c.tc : Thread Cert.ScoresRefIdeal.nD Cert.ScoresRefIdeal.τ).loc Cert.ScoresRefIdeal.main_arg0) = m ((c.tc : Thread Cert.ScoresRefIdeal.nD Cert.ScoresRefIdeal.τ).loc Cert.ScoresRefIdeal.main_arg0)
      ∧ r.2.mem ((c.tc : Thread Cert.ScoresRefIdeal.nD Cert.ScoresRefIdeal.τ).loc Cert.ScoresRefIdeal.main_arg1) = m ((c.tc : Thread Cert.ScoresRefIdeal.nD Cert.ScoresRefIdeal.τ).loc Cert.ScoresRefIdeal.main_arg1))
      ∧ r.2.sem = fun _ => 0)

def preserves_Kernel_KernelIdeal : Prop :=
  True

def algebraic_KernelIdeal_ReferenceIdeal_pre_bank_apart [hKernelIdeal : Cert.KernelIdeal.Facts] [hReferenceIdeal : Cert.ReferenceIdeal.Facts] [hPre_bank_apart : Cert.Pre_bank_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bank_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Scores_ScoresIdeal : Prop :=
  True

def algebraic_ScoresIdeal_ScoresRefIdeal [hScoresIdeal : Cert.ScoresIdeal.Facts] [hScoresRefIdeal : Cert.ScoresRefIdeal.Facts] : Prop :=
  ∀ (m : (ℓ : Loc Cert.ScoresIdeal.nD Cert.ScoresIdeal.τ Cert.ScoresIdeal.sig) → Buf (Elt Ideal) ℓ) (g : Dev Cert.ScoresIdeal.nD → PrngReg)
    (m' : (ℓ : Loc Cert.ScoresRefIdeal.nD Cert.ScoresRefIdeal.τ Cert.ScoresRefIdeal.sig) → Buf (Elt Ideal) ℓ) (g' : Dev Cert.ScoresRefIdeal.nD → PrngReg), Pre_ScoresIdeal m →
    (∀ c : Dev Cert.ScoresIdeal.nD,
      m' ((c.tc : Thread Cert.ScoresRefIdeal.nD Cert.ScoresRefIdeal.τ).loc Cert.ScoresRefIdeal.main_arg0) = m ((c.tc : Thread Cert.ScoresIdeal.nD Cert.ScoresIdeal.τ).loc Cert.ScoresIdeal.main_arg0)
      ∧ m' ((c.tc : Thread Cert.ScoresRefIdeal.nD Cert.ScoresRefIdeal.τ).loc Cert.ScoresRefIdeal.main_arg1) = m ((c.tc : Thread Cert.ScoresIdeal.nD Cert.ScoresIdeal.τ).loc Cert.ScoresIdeal.main_arg1)) →
    ∃ (v0 : (c : Dev Cert.ScoresIdeal.nD) → Buf (Elt Ideal) ((c.tc : Thread Cert.ScoresIdeal.nD Cert.ScoresIdeal.τ).loc Cert.ScoresIdeal.main_v1)),
      θ_run (Cert.ScoresIdeal.defs (F := Ideal)) (onTc (τ := Cert.ScoresIdeal.τ) (Cert.ScoresIdeal.main (F := Ideal))) ⟨m, fun _ => 0, g⟩ (fun r => ∀ c : Dev Cert.ScoresIdeal.nD,
          r.2.mem ((c.tc : Thread Cert.ScoresIdeal.nD Cert.ScoresIdeal.τ).loc Cert.ScoresIdeal.main_v1) = v0 c
          ∧ r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
          ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1))
      ∧ θ_run (Cert.ScoresRefIdeal.defs (F := Ideal)) (onTc (τ := Cert.ScoresRefIdeal.τ) (Cert.ScoresRefIdeal.main (F := Ideal))) ⟨m', fun _ => 0, g'⟩ (fun r => ∀ c : Dev Cert.ScoresRefIdeal.nD,
          r.2.mem ((c.tc : Thread Cert.ScoresRefIdeal.nD Cert.ScoresRefIdeal.τ).loc Cert.ScoresRefIdeal.main_v18) = v0 c
          ∧ r.2.mem ((c.tc : Thread Cert.ScoresRefIdeal.nD Cert.ScoresRefIdeal.τ).loc Cert.ScoresRefIdeal.main_arg0) = m' ((c.tc : Thread Cert.ScoresRefIdeal.nD Cert.ScoresRefIdeal.τ).loc Cert.ScoresRefIdeal.main_arg0)
          ∧ r.2.mem ((c.tc : Thread Cert.ScoresRefIdeal.nD Cert.ScoresRefIdeal.τ).loc Cert.ScoresRefIdeal.main_arg1) = m' ((c.tc : Thread Cert.ScoresRefIdeal.nD Cert.ScoresRefIdeal.τ).loc Cert.ScoresRefIdeal.main_arg1))

def Claim : Prop :=
  ∃ (hKernel : Cert.Kernel.Facts) (hKernelIdeal : Cert.KernelIdeal.Facts) (hReferenceIdeal : Cert.ReferenceIdeal.Facts) (hScores : Cert.Scores.Facts) (hScoresIdeal : Cert.ScoresIdeal.Facts) (hScoresRefIdeal : Cert.ScoresRefIdeal.Facts) (hPre_bank_apart : Cert.Pre_bank_apart.Facts),
    quiescent_Kernel (hKernel := hKernel)
    ∧ quiescent_KernelIdeal (hKernelIdeal := hKernelIdeal)
    ∧ quiescent_KernelIdeal_pre_bank_apart (hKernelIdeal := hKernelIdeal) (hPre_bank_apart := hPre_bank_apart)
    ∧ quiescent_ReferenceIdeal (hReferenceIdeal := hReferenceIdeal)
    ∧ quiescent_ReferenceIdeal_pre_bank_apart (hReferenceIdeal := hReferenceIdeal) (hPre_bank_apart := hPre_bank_apart)
    ∧ quiescent_Scores (hScores := hScores)
    ∧ quiescent_ScoresIdeal (hScoresIdeal := hScoresIdeal)
    ∧ quiescent_ScoresRefIdeal (hScoresRefIdeal := hScoresRefIdeal)
    ∧ preserves_Kernel_KernelIdeal
    ∧ algebraic_KernelIdeal_ReferenceIdeal_pre_bank_apart (hKernelIdeal := hKernelIdeal) (hReferenceIdeal := hReferenceIdeal) (hPre_bank_apart := hPre_bank_apart)
    ∧ preserves_Scores_ScoresIdeal
    ∧ algebraic_ScoresIdeal_ScoresRefIdeal (hScoresIdeal := hScoresIdeal) (hScoresRefIdeal := hScoresRefIdeal)
-- ==== Pre_bank_apart.lean ====
abbrev S4096x512 : Shape := ⟨2, ![4096, 512]⟩
abbrev S16384x512 : Shape := ⟨2, ![16384, 512]⟩
abbrev S_ : Shape := ⟨0, ![]⟩
abbrev S16384 : Shape := ⟨1, ![16384]⟩
abbrev S16384x1 : Shape := ⟨2, ![16384, 1]⟩
abbrev S512x16384 : Shape := ⟨2, ![512, 16384]⟩
abbrev S16384x16384 : Shape := ⟨2, ![16384, 16384]⟩
abbrev S1x16384 : Shape := ⟨2, ![1, 16384]⟩

class Facts : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  transposes_S16384x512_S512x16384_1_0 : S16384x512.Transposes [1, 0] S512x16384
  bcast_S_S16384x16384 : S_.BroadcastsInDim S16384x16384 (![] : Fin 0 → Fin S16384x16384.rank)
  bcast_S16384x1_S16384x16384_0_1 : S16384x1.BroadcastsInDim S16384x16384 (![0, 1] : Fin 2 → Fin S16384x16384.rank)
  transposes_S16384x1_S1x16384_1_0 : S16384x1.Transposes [1, 0] S1x16384
  bcast_S1x16384_S16384x16384_0_1 : S1x16384.BroadcastsInDim S16384x16384 (![0, 1] : Fin 2 → Fin S16384x16384.rank)
  dot_S16384x512_S512x16384_S16384x16384_1_0_0_1_n_n_wf : DotDims.WF S16384x512 S512x16384 S16384x16384 [1] [0] [0] [1] [] []

variable [Facts]

def dot_S16384x512_S512x16384_S16384x16384_1_0_0_1_n_n : DotDims S16384x512 S512x16384 S16384x16384 where
  lhsContracting := [1]
  rhsContracting := [0]
  lhsNonContracting := [0]
  rhsNonContracting := [1]
  lhsBatch := []
  rhsBatch := []
  wf := dot_S16384x512_S512x16384_S16384x16384_1_0_0_1_n_n_wf
def fn {F : FTy → Type} [FloatOps F] (main_arg0 : FVec F S4096x512 .f32) (main_arg1 : FVec F S16384x512 .f32) : IVec S16384x16384 1 :=
  let main_v0 : FVec F S16384x512 .f32 := mulf main_arg1 main_arg1
  let main_cst : FVec F S_ .f32 := constant S_ .f32 0x00000000#32
  let main_v1 : FVec F S16384 .f32 := (fun x v => Host.reduceAdd x v reducesTo_S16384x512_S16384_d1 h_S_) main_v0 main_cst
  let main_v2 : FVec F S16384x1 .f32 := broadcastInDim S16384x1 ![0] bcast_S16384_S16384x1_0 main_v1
  let main_v3 : FVec F S512x16384 .f32 := (transpose S512x16384 [1, 0] · transposes_S16384x512_S512x16384_1_0) main_arg1
  let main_v4 : FVec F S16384x16384 .f32 := (fun l r => Host.dotGeneral dot_S16384x512_S512x16384_S16384x16384_1_0_0_1_n_n none l r) main_arg1 main_v3
  let main_cst_0 : FVec F S_ .f32 := constant S_ .f32 0x40000000#32
  let main_v5 : FVec F S16384x16384 .f32 := broadcastInDim S16384x16384 ![] bcast_S_S16384x16384 main_cst_0
  let main_v6 : FVec F S16384x16384 .f32 := mulf main_v5 main_v4
  let main_v7 : FVec F S16384x16384 .f32 := broadcastInDim S16384x16384 ![0, 1] bcast_S16384x1_S16384x16384_0_1 main_v2
  let main_v8 : FVec F S16384x16384 .f32 := subf main_v7 main_v6
  let main_v9 : FVec F S1x16384 .f32 := (transpose S1x16384 [1, 0] · transposes_S16384x1_S1x16384_1_0) main_v2
  let main_v10 : FVec F S16384x16384 .f32 := broadcastInDim S16384x16384 ![0, 1] bcast_S1x16384_S16384x16384_0_1 main_v9
  let main_v11 : FVec F S16384x16384 .f32 := addf main_v8 main_v10
  let main_cst_1 : FVec F S_ .f32 := constant S_ .f32 0x00000000#32
  let main_v12 : FVec F S16384x16384 .f32 := broadcastInDim S16384x16384 ![] bcast_S_S16384x16384 main_cst_1
  let main_v13 : IVec S16384x16384 1 := cmpf .oeq main_v11 main_v12
  let main_cst_2 : FVec F S_ .f32 := constant S_ .f32 0x2B8CBCCC#32
  let main_v14 : FVec F S16384x16384 .f32 := broadcastInDim S16384x16384 ![] bcast_S_S16384x16384 main_cst_2
  let main_v15 : IVec S16384x16384 1 := cmpf .ogt main_v11 main_v14
  let main_v16 : IVec S16384x16384 1 := ori main_v13 main_v15
  main_v16
-- ==== Kernel.lean ====
abbrev S4096x512 : Shape := ⟨2, ![4096, 512]⟩
abbrev S16384x512 : Shape := ⟨2, ![16384, 512]⟩
abbrev S512x16384 : Shape := ⟨2, ![512, 16384]⟩
abbrev S512x4096 : Shape := ⟨2, ![512, 4096]⟩
abbrev S8x1x512 : Shape := ⟨3, ![8, 1, 512]⟩
abbrev S2048x512 : Shape := ⟨2, ![2048, 512]⟩
abbrev S512x512 : Shape := ⟨2, ![512, 512]⟩
abbrev S1x1x512 : Shape := ⟨3, ![1, 1, 512]⟩
abbrev S8x512 : Shape := ⟨2, ![8, 512]⟩
abbrev S2048x1 : Shape := ⟨2, ![2048, 1]⟩
abbrev S2048 : Shape := ⟨1, ![2048]⟩
abbrev S512 : Shape := ⟨1, ![512]⟩
abbrev S1x512 : Shape := ⟨2, ![1, 512]⟩
abbrev S8x1 : Shape := ⟨2, ![8, 1]⟩
abbrev S512x2048 : Shape := ⟨2, ![512, 2048]⟩
abbrev S512x8 : Shape := ⟨2, ![512, 8]⟩
abbrev S8x16384 : Shape := ⟨2, ![8, 16384]⟩
abbrev S8 : Shape := ⟨1, ![8]⟩
abbrev S8x4096 : Shape := ⟨2, ![8, 4096]⟩
abbrev S8x2048 : Shape := ⟨2, ![8, 2048]⟩
abbrev S1x2048 : Shape := ⟨2, ![1, 2048]⟩
abbrev S2048x8 : Shape := ⟨2, ![2048, 8]⟩
abbrev S1x8 : Shape := ⟨2, ![1, 8]⟩
abbrev S8x9 : Shape := ⟨2, ![8, 9]⟩

abbrev nBuf : Space → Nat
  | .hbm => 7
  | .vmem => 20
  | .smem => 0
  | _ => 0

abbrev bufTy : (tb : Table) → Fin (tcTables nBuf tb) → BufTy
  | .hbm, ⟨0, _⟩ => ⟨S4096x512, .f32⟩
  | .hbm, ⟨1, _⟩ => ⟨S16384x512, .f32⟩
  | .hbm, ⟨2, _⟩ => ⟨S512x16384, .f32⟩
  | .hbm, ⟨3, _⟩ => ⟨S512x4096, .f32⟩
  | .hbm, ⟨4, _⟩ => ⟨S8x1x512, .f32⟩
  | .hbm, ⟨5, _⟩ => ⟨S8x512, .f32⟩
  | .hbm, ⟨6, _⟩ => ⟨S8x1, .f32⟩
  | .local _ .vmem, ⟨0, _⟩ => ⟨S2048x512, .f32⟩
  | .local _ .vmem, ⟨1, _⟩ => ⟨S2048x512, .f32⟩
  | .local _ .vmem, ⟨2, _⟩ => ⟨S512x512, .f32⟩
  | .local _ .vmem, ⟨3, _⟩ => ⟨S512x512, .f32⟩
  | .local _ .vmem, ⟨4, _⟩ => ⟨S1x1x512, .f32⟩
  | .local _ .vmem, ⟨5, _⟩ => ⟨S1x1x512, .f32⟩
  | .local _ .vmem, ⟨6, _⟩ => ⟨S8x512, .f32⟩
  | .local _ .vmem, ⟨7, _⟩ => ⟨S2048x1, .f32⟩
  | .local _ .vmem, ⟨8, _⟩ => ⟨S8x512, .f32⟩
  | .local _ .vmem, ⟨9, _⟩ => ⟨S4096x512, .f32⟩
  | .local _ .vmem, ⟨10, _⟩ => ⟨S512x2048, .f32⟩
  | .local _ .vmem, ⟨11, _⟩ => ⟨S512x2048, .f32⟩
  | .local _ .vmem, ⟨12, _⟩ => ⟨S8x1, .f32⟩
  | .local _ .vmem, ⟨13, _⟩ => ⟨S8x1, .f32⟩
  | .local _ .vmem, ⟨14, _⟩ => ⟨S8x1, .i32⟩
  | .local _ .vmem, ⟨15, _⟩ => ⟨S8x512, .f32⟩
  | .local _ .vmem, ⟨16, _⟩ => ⟨S512x8, .f32⟩
  | .local _ .vmem, ⟨17, _⟩ => ⟨S8x512, .f32⟩
  | .local _ .vmem, ⟨18, _⟩ => ⟨S8x16384, .f32⟩
  | .local _ .vmem, ⟨19, _⟩ => ⟨S8x16384, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc1_scratch3 : Ref sig .tc := ⟨.vmem, 16, rfl⟩
abbrev cc1_scratch4 : Ref sig .tc := ⟨.vmem, 17, rfl⟩
abbrev cc1_scratch5 : Ref sig .tc := ⟨.vmem, 18, rfl⟩
abbrev cc1_scratch6 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem2_1 : DmaSem sig := 9
abbrev cc1_sem3_0 : DmaSem sig := 10

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c0_i32_8 : BitVec 32 := 0#32
  let v13 : BitVec 1 := Scalar.cmpi .eq arg0 c0_i32_8
  let v14 : BitVec 32 := Scalar.extui v13
  let c0_i32_9 : BitVec 32 := 0#32
  let v15 : BitVec 1 := Scalar.cmpi .ne v14 c0_i32_9
  v15

def k0_off1 (i : grid0.Coords) : Fin 2 → Nat :=
  let arg1 : BitVec 32 := BitVec.ofNat 32 (i 1).val
  let v23 : Index := Scalar.indexCast arg1
  let c0_13 : Index := 0#32
  ![v23.toNat, 0]
def k0_cond3 (i : grid0.Coords) : BitVec 1 :=
  let arg0 : BitVec 32 := BitVec.ofNat 32 (i 0).val
  let c0_i32_10 : BitVec 32 := 0#32
  let v16 : BitVec 1 := Scalar.cmpi .sgt arg0 c0_i32_10
  let v17 : BitVec 32 := Scalar.extui v16
  let c0_i32_11 : BitVec 32 := 0#32
  let v18 : BitVec 1 := Scalar.cmpi .ne v17 c0_i32_11
  v18

def k0_off2 (i : grid0.Coords) : Fin 2 → Nat :=
  let arg1 : BitVec 32 := BitVec.ofNat 32 (i 1).val
  let v23 : Index := Scalar.indexCast arg1
  let c0_13 : Index := 0#32
  ![v23.toNat, 0]
def k0_cond4 (i : grid0.Coords) : BitVec 1 :=
  let arg0 : BitVec 32 := BitVec.ofNat 32 (i 0).val
  let c7_i32 : BitVec 32 := 7#32
  let v19 : BitVec 1 := Scalar.cmpi .eq arg0 c7_i32
  let v20 : BitVec 32 := Scalar.extui v19
  let c0_i32_12 : BitVec 32 := 0#32
  let v21 : BitVec 1 := Scalar.cmpi .ne v20 c0_i32_12
  v21

def k0_off3 (i : grid0.Coords) : Fin 2 → Nat :=
  let arg1 : BitVec 32 := BitVec.ofNat 32 (i 1).val
  let v24 : Index := Scalar.indexCast arg1
  let c0_14 : Index := 0#32
  ![v24.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev grid1 : Pipeline.Grid := ⟨2, ![3, 8], ![false, false]⟩

def k1_cond2 (i : grid1.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k1_off1 (i : grid1.Coords) : Fin 2 → Nat :=
  let c0_13 : Index := 0#32
  let arg1 : BitVec 32 := BitVec.ofNat 32 (i 1).val
  let c2048_i32 : BitVec 32 := 2048#32
  let v32 : BitVec 32 := Scalar.muli arg1 c2048_i32
  let v33 : Index := Scalar.indexCast v32
  ![0, v33.toNat]
def k1_cond8 (i : grid1.Coords) : BitVec 1 :=
  let arg0 : BitVec 32 := BitVec.ofNat 32 (i 0).val
  let c2_i32 : BitVec 32 := 2#32
  let v11 : BitVec 1 := Scalar.cmpi .eq arg0 c2_i32
  let v12 : BitVec 32 := Scalar.extui v11
  let c0_i32_5 : BitVec 32 := 0#32
  let v13 : BitVec 1 := Scalar.cmpi .ne v12 c0_i32_5
  v13

def k1_off2 (i : grid1.Coords) : Fin 2 → Nat :=
  let c0_11 : Index := 0#32
  let arg1 : BitVec 32 := BitVec.ofNat 32 (i 1).val
  let c2048_i32 : BitVec 32 := 2048#32
  let v25 : BitVec 32 := Scalar.muli arg1 c2048_i32
  let v26 : Index := Scalar.indexCast v25
  ![0, v26.toNat]
def k1_cond9 (i : grid1.Coords) : BitVec 1 :=
  let arg1 : BitVec 32 := BitVec.ofNat 32 (i 1).val
  let c7_i32 : BitVec 32 := 7#32
  let v30 : BitVec 1 := Scalar.cmpi .eq arg1 c7_i32
  let v31 : BitVec 32 := Scalar.extui v30
  let c0_i32_12 : BitVec 32 := 0#32
  let v32 : BitVec 1 := Scalar.cmpi .ne v31 c0_i32_12
  v32

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S8x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S4096x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S8x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]
-- ==== ReferenceIdeal.lean ====
abbrev S4096x512 : Shape := ⟨2, ![4096, 512]⟩
abbrev S16384x512 : Shape := ⟨2, ![16384, 512]⟩
abbrev S_ : Shape := ⟨0, ![]⟩
abbrev S4096 : Shape := ⟨1, ![4096]⟩
abbrev S4096x1 : Shape := ⟨2, ![4096, 1]⟩
abbrev S16384 : Shape := ⟨1, ![16384]⟩
abbrev S16384x1 : Shape := ⟨2, ![16384, 1]⟩
abbrev S512x16384 : Shape := ⟨2, ![512, 16384]⟩
abbrev S4096x16384 : Shape := ⟨2, ![4096, 16384]⟩
abbrev S1x16384 : Shape := ⟨2, ![1, 16384]⟩
abbrev S8x512 : Shape := ⟨2, ![8, 512]⟩
abbrev S8x1 : Shape := ⟨2, ![8, 1]⟩
abbrev S8 : Shape := ⟨1, ![8]⟩
abbrev S8x16384 : Shape := ⟨2, ![8, 16384]⟩
abbrev S8x9 : Shape := ⟨2, ![8, 9]⟩
abbrev S72 : Shape := ⟨1, ![72]⟩
abbrev S72x1 : Shape := ⟨2, ![72, 1]⟩
abbrev S72x512 : Shape := ⟨2, ![72, 512]⟩
abbrev S8x9x512 : Shape := ⟨3, ![8, 9, 512]⟩
abbrev S8x1x512 : Shape := ⟨3, ![8, 1, 512]⟩
abbrev S8x1x1 : Shape := ⟨3, ![8, 1, 1]⟩
abbrev S8x9x1 : Shape := ⟨3, ![8, 9, 1]⟩
abbrev S8x512x9 : Shape := ⟨3, ![8, 512, 9]⟩
abbrev S8x1x9 : Shape := ⟨3, ![8, 1, 9]⟩

abbrev nBuf : Space → Nat
  | .hbm => 147
  | .vmem => 0
  | .smem => 0
  | _ => 0

abbrev hbmTy0_0 (i : Nat) : BufTy := match i % 128 with
  | 0 => ⟨S4096x512, .f32⟩
  | 1 => ⟨S16384x512, .f32⟩
  | 2 => ⟨S4096x512, .f32⟩
  | 3 => ⟨S_, .f32⟩
  | 4 => ⟨S4096, .f32⟩
  | 5 => ⟨S4096x1, .f32⟩
  | 6 => ⟨S16384x512, .f32⟩
  | 7 => ⟨S_, .f32⟩
  | 8 => ⟨S16384, .f32⟩
  | 9 => ⟨S16384x1, .f32⟩
  | 10 => ⟨S512x16384, .f32⟩
  | 11 => ⟨S4096x16384, .f32⟩
  | 12 => ⟨S_, .f32⟩
  | 13 => ⟨S4096x16384, .f32⟩
  | 14 => ⟨S4096x16384, .f32⟩
  | 15 => ⟨S4096x16384, .f32⟩
  | 16 => ⟨S4096x16384, .f32⟩
  | 17 => ⟨S1x16384, .f32⟩
  | 18 => ⟨S4096x16384, .f32⟩
  | 19 => ⟨S4096x16384, .f32⟩
  | 20 => ⟨S_, .f32⟩
  | 21 => ⟨S_, .f32⟩
  | 22 => ⟨S4096x16384, .f32⟩
  | 23 => ⟨S4096x16384, .f32⟩
  | 24 => ⟨S4096x16384, .f32⟩
  | 25 => ⟨S_, .f32⟩
  | 26 => ⟨S4096, .f32⟩
  | 27 => ⟨S8x512, .f32⟩
  | 28 => ⟨S4096x512, .f32⟩
  | 29 => ⟨S_, .f32⟩
  | 30 => ⟨S4096, .f32⟩
  | 31 => ⟨S4096x1, .f32⟩
  | 32 => ⟨S16384x512, .f32⟩
  | 33 => ⟨S_, .f32⟩
  | 34 => ⟨S16384, .f32⟩
  | 35 => ⟨S16384x1, .f32⟩
  | 36 => ⟨S512x16384, .f32⟩
  | 37 => ⟨S4096x16384, .f32⟩
  | 38 => ⟨S_, .f32⟩
  | 39 => ⟨S4096x16384, .f32⟩
  | 40 => ⟨S4096x16384, .f32⟩
  | 41 => ⟨S4096x16384, .f32⟩
  | 42 => ⟨S4096x16384, .f32⟩
  | 43 => ⟨S1x16384, .f32⟩
  | 44 => ⟨S4096x16384, .f32⟩
  | 45 => ⟨S4096x16384, .f32⟩
  | 46 => ⟨S_, .f32⟩
  | 47 => ⟨S_, .f32⟩
  | 48 => ⟨S4096x16384, .f32⟩
  | 49 => ⟨S4096x16384, .f32⟩
  | 50 => ⟨S4096x16384, .f32⟩
  | 51 => ⟨S4096x16384, .f32⟩
  | 52 => ⟨S4096x1, .f32⟩
  | 53 => ⟨S4096x1, .i32⟩
  | 54 => ⟨S4096, .i32⟩
  | 55 => ⟨S8x1, .f32⟩
  | 56 => ⟨S8x1, .i32⟩
  | 57 => ⟨S8, .i32⟩
  | 58 => ⟨S8, .i32⟩
  | 59 => ⟨S_, .i32⟩
  | 60 => ⟨S8, .i32⟩
  | 61 => ⟨S8, .i32⟩
  | 62 => ⟨S8, .i32⟩
  | 63 => ⟨S8x1, .i32⟩
  | 64 => ⟨S8x512, .f32⟩
  | 65 => ⟨S4096, .f32⟩
  | 66 => ⟨S8x1, .i32⟩
  | 67 => ⟨S8, .f32⟩
  | 68 => ⟨S8x1, .i32⟩
  | 69 => ⟨S8, .i32⟩
  | 70 => ⟨S8x1, .i32⟩
  | 71 => ⟨S8x512, .f32⟩
  | 72 => ⟨S8x512, .f32⟩
  | 73 => ⟨S_, .f32⟩
  | 74 => ⟨S8, .f32⟩
  | 75 => ⟨S8x1, .f32⟩
  | 76 => ⟨S16384x512, .f32⟩
  | 77 => ⟨S_, .f32⟩
  | 78 => ⟨S16384, .f32⟩
  | 79 => ⟨S16384x1, .f32⟩
  | 80 => ⟨S512x16384, .f32⟩
  | 81 => ⟨S8x16384, .f32⟩
  | 82 => ⟨S_, .f32⟩
  | 83 => ⟨S8x16384, .f32⟩
  | 84 => ⟨S8x16384, .f32⟩
  | 85 => ⟨S8x16384, .f32⟩
  | 86 => ⟨S8x16384, .f32⟩
  | 87 => ⟨S1x16384, .f32⟩
  | 88 => ⟨S8x16384, .f32⟩
  | 89 => ⟨S8x16384, .f32⟩
  | 90 => ⟨S_, .f32⟩
  | 91 => ⟨S_, .f32⟩
  | 92 => ⟨S8x16384, .f32⟩
  | 93 => ⟨S8x16384, .f32⟩
  | 94 => ⟨S8x16384, .f32⟩
  | 95 => ⟨S8x16384, .f32⟩
  | 96 => ⟨S8x9, .f32⟩
  | 97 => ⟨S8x9, .i32⟩
  | 98 => ⟨S72, .i32⟩
  | 99 => ⟨S72x1, .i32⟩
  | 100 => ⟨S72x512, .f32⟩
  | 101 => ⟨S8x9x512, .f32⟩
  | 102 => ⟨S8x1x512, .f32⟩
  | 103 => ⟨S8x1x512, .f32⟩
  | 104 => ⟨S_, .f32⟩
  | 105 => ⟨S8x1, .f32⟩
  | 106 => ⟨S8x1x1, .f32⟩
  | 107 => ⟨S8x9x512, .f32⟩
  | 108 => ⟨S_, .f32⟩
  | 109 => ⟨S8x9, .f32⟩
  | 110 => ⟨S8x9x1, .f32⟩
  | 111 => ⟨S8x512x9, .f32⟩
  | 112 => ⟨S8x1x9, .f32⟩
  | 113 => ⟨S_, .f32⟩
  | 114 => ⟨S8x1x9, .f32⟩
  | 115 => ⟨S8x1x9, .f32⟩
  | 116 => ⟨S8x1x9, .f32⟩
  | 117 => ⟨S8x1x9, .f32⟩
  | 118 => ⟨S8x1x9, .f32⟩
  | 119 => ⟨S8x1x9, .f32⟩
  | 120 => ⟨S_, .f32⟩
  | 121 => ⟨S_, .f32⟩
  | 122 => ⟨S8x1x9, .f32⟩
  | 123 => ⟨S8x1x9, .f32⟩
  | 124 => ⟨S8x1x9, .f32⟩
  | 125 => ⟨S8x9, .f32⟩
  | 126 => ⟨S_, .f32⟩
  | 127 => ⟨S8, .f32⟩
  | _ => ⟨S4096x512, .f32⟩

abbrev hbmTy0_1 (i : Nat) : BufTy := match i % 128 with
  | 0 => ⟨S_, .f32⟩
  | 1 => ⟨S8, .f32⟩
  | 2 => ⟨S8, .f32⟩
  | 3 => ⟨S8x1, .f32⟩
  | 4 => ⟨S8x9, .f32⟩
  | 5 => ⟨S8x9, .f32⟩
  | 6 => ⟨S8x9, .f32⟩
  | 7 => ⟨S_, .f32⟩
  | 8 => ⟨S8, .f32⟩
  | 9 => ⟨S8x1, .f32⟩
  | 10 => ⟨S8x9, .f32⟩
  | 11 => ⟨S8x9, .f32⟩
  | 12 => ⟨S_, .f32⟩
  | 13 => ⟨S8x9, .f32⟩
  | 14 => ⟨S8x9, .f32⟩
  | 15 => ⟨S8x1, .f32⟩
  | 16 => ⟨S8, .f32⟩
  | 17 => ⟨S8, .f32⟩
  | 18 => ⟨S8x1, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_call1_v0 : Ref sig .tc := ⟨.hbm, 47, rfl⟩
abbrev main_call1_v1 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_values : Ref sig .tc := ⟨.hbm, 52, rfl⟩
abbrev main_indices : Ref sig .tc := ⟨.hbm, 53, rfl⟩
abbrev main_v37 : Ref sig .tc := ⟨.hbm, 54, rfl⟩
abbrev main_values_8 : Ref sig .tc := ⟨.hbm, 55, rfl⟩
abbrev main_indices_9 : Ref sig .tc := ⟨.hbm, 56, rfl⟩
abbrev main_v38 : Ref sig .tc := ⟨.hbm, 57, rfl⟩
abbrev main_v39 : Ref sig .tc := ⟨.hbm, 58, rfl⟩
abbrev main_c : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call2_v0 : Ref sig .tc := ⟨.hbm, 63, rfl⟩
abbrev main_v43 : Ref sig .tc := ⟨.hbm, 64, rfl⟩
abbrev main_v44 : Ref sig .tc := ⟨.hbm, 65, rfl⟩
abbrev main_call3_v0 : Ref sig .tc := ⟨.hbm, 66, rfl⟩
abbrev main_v45 : Ref sig .tc := ⟨.hbm, 67, rfl⟩
abbrev main_call4_v0 : Ref sig .tc := ⟨.hbm, 68, rfl⟩
abbrev main_v46 : Ref sig .tc := ⟨.hbm, 69, rfl⟩
abbrev main_call5_v0 : Ref sig .tc := ⟨.hbm, 70, rfl⟩
abbrev main_v47 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_13 : Ref sig .tc := ⟨.hbm, 90, rfl⟩
abbrev main_call6_v0 : Ref sig .tc := ⟨.hbm, 91, rfl⟩
abbrev main_call6_v1 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_values_14 : Ref sig .tc := ⟨.hbm, 96, rfl⟩
abbrev main_indices_15 : Ref sig .tc := ⟨.hbm, 97, rfl⟩
abbrev main_v66 : Ref sig .tc := ⟨.hbm, 98, rfl⟩
abbrev main_call7_v0 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_16 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_17 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_18 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_19 : Ref sig .tc := ⟨.hbm, 120, rfl⟩
abbrev main_call8_v0 : Ref sig .tc := ⟨.hbm, 121, rfl⟩
abbrev main_call8_v1 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_20 : Ref sig .tc := ⟨.hbm, 126, rfl⟩
abbrev main_v87 : Ref sig .tc := ⟨.hbm, 127, rfl⟩
abbrev main_cst_21 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_22 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_23 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩

abbrev nD : Nat := 1
abbrev τ : Topo := Topo.v7x

variable {F : FTy → Type} [FloatOps F]
-- ==== Scores.lean ====
abbrev S4096x512 : Shape := ⟨2, ![4096, 512]⟩
abbrev S16384x512 : Shape := ⟨2, ![16384, 512]⟩
abbrev S512x4096 : Shape := ⟨2, ![512, 4096]⟩
abbrev S8x1x512 : Shape := ⟨3, ![8, 1, 512]⟩
abbrev S2048x512 : Shape := ⟨2, ![2048, 512]⟩
abbrev S512x512 : Shape := ⟨2, ![512, 512]⟩
abbrev S1x1x512 : Shape := ⟨3, ![1, 1, 512]⟩
abbrev S8x512 : Shape := ⟨2, ![8, 512]⟩
abbrev S2048x1 : Shape := ⟨2, ![2048, 1]⟩
abbrev S2048 : Shape := ⟨1, ![2048]⟩
abbrev S512 : Shape := ⟨1, ![512]⟩
abbrev S1x512 : Shape := ⟨2, ![1, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S16384x512, .f32⟩
  | .hbm, ⟨2, _⟩ => ⟨S512x4096, .f32⟩
  | .hbm, ⟨3, _⟩ => ⟨S8x1x512, .f32⟩
  | .local _ .vmem, ⟨0, _⟩ => ⟨S2048x512, .f32⟩
  | .local _ .vmem, ⟨1, _⟩ => ⟨S2048x512, .f32⟩
  | .local _ .vmem, ⟨2, _⟩ => ⟨S512x512, .f32⟩
  | .local _ .vmem, ⟨3, _⟩ => ⟨S512x512, .f32⟩
  | .local _ .vmem, ⟨4, _⟩ => ⟨S1x1x512, .f32⟩
  | .local _ .vmem, ⟨5, _⟩ => ⟨S1x1x512, .f32⟩
  | .local _ .vmem, ⟨6, _⟩ => ⟨S8x512, .f32⟩
  | .local _ .vmem, ⟨7, _⟩ => ⟨S2048x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c0_i32_8 : BitVec 32 := 0#32
  let v13 : BitVec 1 := Scalar.cmpi .eq arg0 c0_i32_8
  let v14 : BitVec 32 := Scalar.extui v13
  let c0_i32_9 : BitVec 32 := 0#32
  let v15 : BitVec 1 := Scalar.cmpi .ne v14 c0_i32_9
  v15

def k0_off1 (i : grid0.Coords) : Fin 2 → Nat :=
  let arg1 : BitVec 32 := BitVec.ofNat 32 (i 1).val
  let v23 : Index := Scalar.indexCast arg1
  let c0_13 : Index := 0#32
  ![v23.toNat, 0]
def k0_cond3 (i : grid0.Coords) : BitVec 1 :=
  let arg0 : BitVec 32 := BitVec.ofNat 32 (i 0).val
  let c0_i32_10 : BitVec 32 := 0#32
  let v16 : BitVec 1 := Scalar.cmpi .sgt arg0 c0_i32_10
  let v17 : BitVec 32 := Scalar.extui v16
  let c0_i32_11 : BitVec 32 := 0#32
  let v18 : BitVec 1 := Scalar.cmpi .ne v17 c0_i32_11
  v18

def k0_off2 (i : grid0.Coords) : Fin 2 → Nat :=
  let arg1 : BitVec 32 := BitVec.ofNat 32 (i 1).val
  let v23 : Index := Scalar.indexCast arg1
  let c0_13 : Index := 0#32
  ![v23.toNat, 0]
def k0_cond4 (i : grid0.Coords) : BitVec 1 :=
  let arg0 : BitVec 32 := BitVec.ofNat 32 (i 0).val
  let c7_i32 : BitVec 32 := 7#32
  let v19 : BitVec 1 := Scalar.cmpi .eq arg0 c7_i32
  let v20 : BitVec 32 := Scalar.extui v19
  let c0_i32_12 : BitVec 32 := 0#32
  let v21 : BitVec 1 := Scalar.cmpi .ne v20 c0_i32_12
  v21

def k0_off3 (i : grid0.Coords) : Fin 2 → Nat :=
  let arg1 : BitVec 32 := BitVec.ofNat 32 (i 1).val
  let v24 : Index := Scalar.indexCast arg1
  let c0_14 : Index := 0#32
  ![v24.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== ScoresRefIdeal.lean ====
abbrev S4096x512 : Shape := ⟨2, ![4096, 512]⟩
abbrev S16384x512 : Shape := ⟨2, ![16384, 512]⟩
abbrev S_ : Shape := ⟨0, ![]⟩
abbrev S4096 : Shape := ⟨1, ![4096]⟩
abbrev S4096x1 : Shape := ⟨2, ![4096, 1]⟩
abbrev S16384 : Shape := ⟨1, ![16384]⟩
abbrev S16384x1 : Shape := ⟨2, ![16384, 1]⟩
abbrev S512x16384 : Shape := ⟨2, ![512, 16384]⟩
abbrev S4096x16384 : Shape := ⟨2, ![4096, 16384]⟩
abbrev S1x16384 : Shape := ⟨2, ![1, 16384]⟩
abbrev S8x1x512 : Shape := ⟨3, ![8, 1, 512]⟩

abbrev nBuf : Space → Nat
  | .hbm => 28
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S16384x512, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S16384x512, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S512x16384, .f32⟩
  | .hbm, ⟨11, _⟩ => ⟨S4096x16384, .f32⟩
  | .hbm, ⟨12, _⟩ => ⟨S_, .f32⟩
  | .hbm, ⟨13, _⟩ => ⟨S4096x16384, .f32⟩
  | .hbm, ⟨14, _⟩ => ⟨S4096x16384, .f32⟩
  | .hbm, ⟨15, _⟩ => ⟨S4096x16384, .f32⟩
  | .hbm, ⟨16, _⟩ => ⟨S4096x16384, .f32⟩
  | .hbm, ⟨17, _⟩ => ⟨S1x16384, .f32⟩
  | .hbm, ⟨18, _⟩ => ⟨S4096x16384, .f32⟩
  | .hbm, ⟨19, _⟩ => ⟨S4096x16384, .f32⟩
  | .hbm, ⟨20, _⟩ => ⟨S_, .f32⟩
  | .hbm, ⟨21, _⟩ => ⟨S_, .f32⟩
  | .hbm, ⟨22, _⟩ => ⟨S4096x16384, .f32⟩
  | .hbm, ⟨23, _⟩ => ⟨S4096x16384, .f32⟩
  | .hbm, ⟨24, _⟩ => ⟨S4096x16384, .f32⟩
  | .hbm, ⟨25, _⟩ => ⟨S_, .f32⟩
  | .hbm, ⟨26, _⟩ => ⟨S4096, .f32⟩
  | .hbm, ⟨27, _⟩ => ⟨S8x1x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Proof.PredBody.lean ====
/-
  The second region's kernel body, run once at a grid point. The point's coordinates are the pass `p` and the bank block `k`. In pass 0 the body
  takes the scores' maximum and its embedding row (at the first block), then the block's clipped squared distances, and at the last
  block the nearest bank row. In pass 1 it gathers that bank row. In pass 2 it takes the block's sort keys, and at the last block the
  nine nearest rows and the prediction.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.Frame
public import Idealize.ShloMosaic.Lib.VecWindow
public import Idealize.ShloMosaic.Lib.Tactic

@[expose] public section

set_option maxRecDepth 16384

noncomputable section

namespace Cert.KernelIdeal.Pred

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The scratch: the maximal score, the nearest bank row's index, the maximum's embedding row, the nearest bank row as columns and as
    rows, the sort keys, the squared distances. -/
abbrev scS : Memref sig .tc .vmem S8x1 .f32 := Memref.whole cc1_scratch0
abbrev niS : Memref sig .tc .vmem S8x1 .i32 := Memref.whole cc1_scratch1
abbrev mfS : Memref sig .tc .vmem S8x512 .f32 := Memref.whole cc1_scratch2
abbrev ntS : Memref sig .tc .vmem S512x8 .f32 := Memref.whole cc1_scratch3
abbrev nnS : Memref sig .tc .vmem S8x512 .f32 := Memref.whole cc1_scratch4
abbrev keS : Memref sig .tc .vmem S8x16384 .f32 := Memref.whole cc1_scratch5
abbrev dmS : Memref sig .tc .vmem S8x16384 .f32 := Memref.whole cc1_scratch6

/-! ## The branch conditions, by the coordinates -/

theorem c1_iff (i : grid1.Coords) :
    Scalar.cmpi .ne (Scalar.extui (Scalar.andi (Scalar.cmpi .eq (BitVec.ofNat 32 (i 0).val) 0#32) (Scalar.cmpi .eq (BitVec.ofNat 32 (i 1).val) 0#32)) : BitVec 32) 0#32 = 1#1
      ↔ (i 0).val = 0 ∧ (i 1).val = 0 := by
  generalize i 0 = a
  generalize i 1 = b
  revert a b
  decide +kernel
theorem c2_iff (i : grid1.Coords) : k1_cond2 i = 1#1 ↔ (i 0).val = 0 := by
  unfold k1_cond2
  generalize i 0 = a
  revert a
  decide +kernel
theorem c3_iff (i : grid1.Coords) :
    Scalar.cmpi .ne (Scalar.extui (Scalar.cmpi .eq (BitVec.ofNat 32 (i 1).val) 7#32) : BitVec 32) 0#32 = 1#1 ↔ (i 1).val = 7 := by
  generalize i 1 = a
  revert a
  decide +kernel
theorem c4_iff (i : grid1.Coords) :
    Scalar.cmpi .ne (Scalar.extui (Scalar.cmpi .eq (BitVec.ofNat 32 (i 0).val) 1#32) : BitVec 32) 0#32 = 1#1 ↔ (i 0).val = 1 := by
  generalize i 0 = a
  revert a
  decide +kernel
theorem c5_iff (i : grid1.Coords) :
    Scalar.cmpi .ne (Scalar.extui (Scalar.cmpi .eq (BitVec.ofNat 32 (i 1).val) 0#32) : BitVec 32) 0#32 = 1#1 ↔ (i 1).val = 0 := by
  generalize i 1 = a
  revert a
  decide +kernel
theorem c6_iff (i : grid1.Coords) :
    Scalar.cmpi .ne (Scalar.extui (Scalar.cmpi .sgt (BitVec.ofNat 32 (i 1).val) 0#32) : BitVec 32) 0#32 = 1#1 ↔ (i 1).val ≠ 0 := by
  generalize i 1 = a
  revert a
  decide +kernel
theorem c8_iff (i : grid1.Coords) : k1_cond8 i = 1#1 ↔ (i 0).val = 2 := by
  unfold k1_cond8
  generalize i 0 = a
  revert a
  decide +kernel
theorem c9_iff (i : grid1.Coords) : k1_cond9 i = 1#1 ↔ (i 1).val = 7 := by
  unfold k1_cond9
  generalize i 1 = a
  revert a
  decide +kernel

/-! ## What the body leaves -/

/-- An array of distances or keys with its column block `k` replaced. -/
abbrev colPut (s : S8x16384.Idx → Elt F .f32) (k : ℕ) (w : Vec F S8x2048 .f32) : S8x16384.Idx → Elt F .f32 :=
  VecWindow.put s ![0, 2048 * k] S8x2048.size w

/-- The prediction from the keys, the squared distances and the maximal score: nine rounds, each picking the first least key, reading the
    squared distance there and striking the key out; then the softmax weight of the first. -/
def predOf (κ d : Vec F S8x16384 .f32) (s : Vec F S8x1 .f32) : Vec F S8x1 .f32 :=
  k1_pay12 d (iota .tc S8x16384 32 [1] iota_S8x16384_d1_w32) (k1_pay14 κ d) (k1_pay14 (k1_pay15 κ) d) (k1_pay14 (k1_pay15 (k1_pay15 κ)) d)
    (k1_pay14 (k1_pay15 (k1_pay15 (k1_pay15 κ))) d) (k1_pay14 (k1_pay15 (k1_pay15 (k1_pay15 (k1_pay15 κ)))) d)
    (k1_pay14 (k1_pay15 (k1_pay15 (k1_pay15 (k1_pay15 (k1_pay15 κ))))) d)
    (k1_pay14 (k1_pay15 (k1_pay15 (k1_pay15 (k1_pay15 (k1_pay15 (k1_pay15 κ)))))) d)
    (k1_pay14 (k1_pay15 (k1_pay15 (k1_pay15 (k1_pay15 (k1_pay15 (k1_pay15 (k1_pay15 κ))))))) d)
    (k1_pay38 (iota .tc S8x16384 32 [1] iota_S8x16384_d1_w32) (k1_pay28 (iota .tc S8x16384 32 [1] iota_S8x16384_d1_w32) (k1_pay18 κ) (k1_pay19 κ))
      (k1_pay29 (iota .tc S8x16384 32 [1] iota_S8x16384_d1_w32) (k1_pay18 κ) (k1_pay19 κ))) s

def scOf (k : ℕ) (x : Vec F S8x512 .f32) (s : Vec F S8x1 .f32) : Vec F S8x1 .f32 := if k = 0 then k1_pay3 x else s
def mfOf (k : ℕ) (x : Vec F S8x512 .f32) (e : Vec F S4096x512 .f32) (s : Vec F S8x512 .f32) : Vec F S8x512 .f32 :=
  if k = 0 then k1_pay4 x e else s
def niOf (k : ℕ) (d : Vec F S8x16384 .f32) (s : Vec F S8x1 .i32) : Vec F S8x1 .i32 := if k = 7 then k1_pay6 d else s
def ntOf (i : grid1.Coords) (y : Vec F S512x2048 .f32) (n : Vec F S8x1 .i32) (s : Vec F S512x8 .f32) : Vec F S512x8 .f32 :=
  if (i 1).val = 0 then k1_pay8 i y n else k1_pay9 i y n s
def nnOf (k : ℕ) (t : Vec F S512x8 .f32) (s : Vec F S8x512 .f32) : Vec F S8x512 .f32 := if k = 7 then k1_pay10 t else s
def outOf (k : ℕ) (κ d : Vec F S8x16384 .f32) (s x : Vec F S8x1 .f32) : Vec F S8x1 .f32 := if k = 7 then predOf κ d s else x

/-- The prediction, its rounds as the body names them. -/
theorem predOf_eq (κ d : Vec F S8x16384 .f32) (s : Vec F S8x1 .f32) :
    k1_pay12 d (iota .tc S8x16384 32 [1] iota_S8x16384_d1_w32) (k1_pay14 κ d) (k1_pay17 κ d)
      (k1_pay21 d (iota .tc S8x16384 32 [1] iota_S8x16384_d1_w32) (k1_pay19 κ))
      (k1_pay24 d (iota .tc S8x16384 32 [1] iota_S8x16384_d1_w32) (k1_pay18 κ) (k1_pay19 κ))
      (k1_pay27 d (iota .tc S8x16384 32 [1] iota_S8x16384_d1_w32) (k1_pay18 κ) (k1_pay19 κ))
      (k1_pay31 d (iota .tc S8x16384 32 [1] iota_S8x16384_d1_w32) (k1_pay29 (iota .tc S8x16384 32 [1] iota_S8x16384_d1_w32) (k1_pay18 κ) (k1_pay19 κ)))
      (k1_pay34 d (iota .tc S8x16384 32 [1] iota_S8x16384_d1_w32) (k1_pay28 (iota .tc S8x16384 32 [1] iota_S8x16384_d1_w32) (k1_pay18 κ) (k1_pay19 κ))
        (k1_pay29 (iota .tc S8x16384 32 [1] iota_S8x16384_d1_w32) (k1_pay18 κ) (k1_pay19 κ)))
      (k1_pay37 d (iota .tc S8x16384 32 [1] iota_S8x16384_d1_w32) (k1_pay28 (iota .tc S8x16384 32 [1] iota_S8x16384_d1_w32) (k1_pay18 κ) (k1_pay19 κ))
        (k1_pay29 (iota .tc S8x16384 32 [1] iota_S8x16384_d1_w32) (k1_pay18 κ) (k1_pay19 κ)))
      (k1_pay38 (iota .tc S8x16384 32 [1] iota_S8x16384_d1_w32) (k1_pay28 (iota .tc S8x16384 32 [1] iota_S8x16384_d1_w32) (k1_pay18 κ) (k1_pay19 κ))
        (k1_pay29 (iota .tc S8x16384 32 [1] iota_S8x16384_d1_w32) (k1_pay18 κ) (k1_pay19 κ))) s
      = predOf κ d s := rfl

/-- A column block stored over an array. -/
theorem read_put_ke (k : ℕ) {off : Fin 2 → ℕ} (h : off = ![0, 2048 * k]) (inb : ∀ a, off a + S8x2048.size a ≤ S8x16384.size a)
    (f : keS.view.ty.Contents (Elt F)) (w : Vec F S8x2048 .f32) :
    (keS.view).read (Elt F) ((keS.view).writes (Elt F) f [⟨Rect.unit (s := S8x16384) off S8x2048.size inb, w⟩])
      = colPut ((keS.view).read (Elt F) f) k w :=
  View.read_writes_cons_put (Val := Elt F) keS.view f inb w [] h
theorem read_put_dm (k : ℕ) {off : Fin 2 → ℕ} (h : off = ![0, 2048 * k]) (inb : ∀ a, off a + S8x2048.size a ≤ S8x16384.size a)
    (f : dmS.view.ty.Contents (Elt F)) (w : Vec F S8x2048 .f32) :
    (dmS.view).read (Elt F) ((dmS.view).writes (Elt F) f [⟨Rect.unit (s := S8x16384) off S8x2048.size inb, w⟩])
      = colPut ((dmS.view).read (Elt F) f) k w :=
  View.read_writes_cons_put (Val := Elt F) dmS.view f inb w [] h

set_option maxHeartbeats 1600000 in
/-- A point of pass 0. -/
theorem body0 (c : Dev nD) (i : grid1.Coords) (e : (i 0).val = 0)
    (a2 : Memref sig .tc .vmem S8x512 .f32) (ha2 : a2.IsWhole)
    (a3 : Memref sig .tc .vmem S4096x512 .f32) (ha3 : a3.IsWhole)
    (a4 : Memref sig .tc .vmem S512x2048 .f32) (ha4 : a4.IsWhole)
    (a5 : Memref sig .tc .vmem S8x1 .f32) (ha5 : a5.IsWhole)
    (x2 : Vec F S8x512 .f32) (x3 : Vec F S4096x512 .f32) (x4 : Vec F S512x2048 .f32) (s6 : Vec F S8x1 .f32) (s7 : Vec F S8x1 .i32) (s8 : Vec F S8x512 .f32) (s12 : Vec F S8x16384 .f32) (K : PUnit → sProp 𝕄) :
    iprop(owns (c : Thread nD τ) a2 fullShare x2
        ∗ owns (c : Thread nD τ) a3 fullShare x3
        ∗ owns (c : Thread nD τ) a4 fullShare x4
        ∗ owns (c : Thread nD τ) scS fullShare s6
        ∗ owns (c : Thread nD τ) niS fullShare s7
        ∗ owns (c : Thread nD τ) mfS fullShare s8
        ∗ owns (c : Thread nD τ) dmS fullShare s12
        ∗ (iprop(owns (c : Thread nD τ) a2 fullShare x2
            ∗ owns (c : Thread nD τ) a3 fullShare x3
            ∗ owns (c : Thread nD τ) a4 fullShare x4
            ∗ owns (c : Thread nD τ) scS fullShare (scOf (i 1).val x2 s6)
            ∗ owns (c : Thread nD τ) niS fullShare (niOf (i 1).val (colPut s12 (i 1).val (k1_pay5 x4 (mfOf (i 1).val x2 x3 s8))) s7)
            ∗ owns (c : Thread nD τ) mfS fullShare (mfOf (i 1).val x2 x3 s8)
            ∗ owns (c : Thread nD τ) dmS fullShare (colPut s12 (i 1).val (k1_pay5 x4 (mfOf (i 1).val x2 x3 s8)))) -∗ K ⟨⟩))
      ⊢ wp frame (wpE (defs₀ (F := F)) Variants.none c none) Set.univ
          (cc1__phase2_kernel i a2 ha2 a3 ha3 a4 ha4 a5 ha5 scS (Memref.isWhole_whole _) niS (Memref.isWhole_whole _) mfS (Memref.isWhole_whole _) ntS (Memref.isWhole_whole _) nnS (Memref.isWhole_whole _) keS (Memref.isWhole_whole _) dmS (Memref.isWhole_whole _)) K := by
  simp only [cc1__phase2_kernel_eq_skeleton]; unfold cc1__phase2_kernel_skel
  unfold owns
  iintro ⟨⟨%f2, %hf2, H2⟩, ⟨%f3, %hf3, H3⟩, ⟨%f4, %hf4, H4⟩, ⟨%f6, %hf6, H6⟩, ⟨%f7, %hf7, H7⟩, ⟨%f8, %hf8, H8⟩, ⟨%f12, %hf12, H12⟩, Hk⟩
  have h2 := (c2_iff i).mpr e
  have h4 := (c4_iff i).not.mpr (by omega)
  have h8 := (c8_iff i).not.mpr (by omega)
  have ho : k1_off1 i = ![0, 2048 * (i 1).val] := k1_off1_eq i
  by_cases k0 : (i 1).val = 0 <;> by_cases k7 : (i 1).val = 7
  all_goals first | exact absurd (k0.symm.trans k7) (by decide) | skip
  all_goals
    first | have h1 := (c1_iff i).mpr ⟨e, k0⟩ | have h1 := (c1_iff i).not.mpr (fun h => k0 h.2)
  all_goals
    first | have h3 := (c3_iff i).mpr k7 | have h3 := (c3_iff i).not.mpr k7
  all_goals
    first
      | have hsc : scOf (i 1).val x2 s6 = k1_pay3 x2 := if_pos k0
      | have hsc : scOf (i 1).val x2 s6 = s6 := if_neg k0
  all_goals
    first
      | have hmf : mfOf (i 1).val x2 x3 s8 = k1_pay4 x2 x3 := if_pos k0
      | have hmf : mfOf (i 1).val x2 x3 s8 = s8 := if_neg k0
  all_goals
    first
      | have hni : ∀ d, niOf (i 1).val d s7 = k1_pay6 d := fun _ => if_pos k7
      | have hni : ∀ d, niOf (i 1).val d s7 = s7 := fun _ => if_neg k7
  all_goals
    sl_exec
    sl_step
    iapply Hk
    isplitl [H2]
    · iexists _; isplitr; swap; · iexact H2
      ipureintro
      try unfold body0.sl.v18
      try unfold body0.sl.v18_1
      try unfold body0.sl.v18_2
      try unfold body0.sl.v40
      try unfold body0.sl.H8_1
      try unfold body0.sl.H8_1_1
      try unfold body0.sl.H12_1
      try unfold body0.sl.H12_1_1
      try unfold body0.sl.H12_1_2
      try simp -proj -dsimp only [hsc, hmf, hni, read_put_dm (i 1).val ho, View.readAt_full, View.read_writes_full, View.readCov_full, hf2, hf3, hf4, hf6, hf7, hf8, hf12]
    isplitl [H3]
    · iexists _; isplitr; swap; · iexact H3
      ipureintro
      try unfold body0.sl.v18
      try unfold body0.sl.v18_1
      try unfold body0.sl.v18_2
      try unfold body0.sl.v40
      try unfold body0.sl.H8_1
      try unfold body0.sl.H8_1_1
      try unfold body0.sl.H12_1
      try unfold body0.sl.H12_1_1
      try unfold body0.sl.H12_1_2
      try simp -proj -dsimp only [hsc, hmf, hni, read_put_dm (i 1).val ho, View.readAt_full, View.read_writes_full, View.readCov_full, hf2, hf3, hf4, hf6, hf7, hf8, hf12]
    isplitl [H4]
    · iexists _; isplitr; swap; · iexact H4
      ipureintro
      try unfold body0.sl.v18
      try unfold body0.sl.v18_1
      try unfold body0.sl.v18_2
      try unfold body0.sl.v40
      try unfold body0.sl.H8_1
      try unfold body0.sl.H8_1_1
      try unfold body0.sl.H12_1
      try unfold body0.sl.H12_1_1
      try unfold body0.sl.H12_1_2
      try simp -proj -dsimp only [hsc, hmf, hni, read_put_dm (i 1).val ho, View.readAt_full, View.read_writes_full, View.readCov_full, hf2, hf3, hf4, hf6, hf7, hf8, hf12]
    isplitl [H6]
    · iexists _; isplitr; swap; · iexact H6
      ipureintro
      try unfold body0.sl.v18
      try unfold body0.sl.v18_1
      try unfold body0.sl.v18_2
      try unfold body0.sl.v40
      try unfold body0.sl.H8_1
      try unfold body0.sl.H8_1_1
      try unfold body0.sl.H12_1
      try unfold body0.sl.H12_1_1
      try unfold body0.sl.H12_1_2
      try simp -proj -dsimp only [hsc, hmf, hni, read_put_dm (i 1).val ho, View.readAt_full, View.read_writes_full, View.readCov_full, hf2, hf3, hf4, hf6, hf7, hf8, hf12]
    isplitl [H7]
    · iexists _; isplitr; swap; · iexact H7
      ipureintro
      try unfold body0.sl.v18
      try unfold body0.sl.v18_1
      try unfold body0.sl.v18_2
      try unfold body0.sl.v40
      try unfold body0.sl.H8_1
      try unfold body0.sl.H8_1_1
      try unfold body0.sl.H12_1
      try unfold body0.sl.H12_1_1
      try unfold body0.sl.H12_1_2
      try simp -proj -dsimp only [hsc, hmf, hni, read_put_dm (i 1).val ho, View.readAt_full, View.read_writes_full, View.readCov_full, hf2, hf3, hf4, hf6, hf7, hf8, hf12]
    isplitl [H8]
    · iexists _; isplitr; swap; · iexact H8
      ipureintro
      try unfold body0.sl.v18
      try unfold body0.sl.v18_1
      try unfold body0.sl.v18_2
      try unfold body0.sl.v40
      try unfold body0.sl.H8_1
      try unfold body0.sl.H8_1_1
      try unfold body0.sl.H12_1
      try unfold body0.sl.H12_1_1
      try unfold body0.sl.H12_1_2
      try simp -proj -dsimp only [hsc, hmf, hni, read_put_dm (i 1).val ho, View.readAt_full, View.read_writes_full, View.readCov_full, hf2, hf3, hf4, hf6, hf7, hf8, hf12]
    · iexists _; isplitr; swap; · iexact H12
      ipureintro
      try unfold body0.sl.v18
      try unfold body0.sl.v18_1
      try unfold body0.sl.v18_2
      try unfold body0.sl.v40
      try unfold body0.sl.H8_1
      try unfold body0.sl.H8_1_1
      try unfold body0.sl.H12_1
      try unfold body0.sl.H12_1_1
      try unfold body0.sl.H12_1_2
      try simp -proj -dsimp only [hsc, hmf, hni, read_put_dm (i 1).val ho, View.readAt_full, View.read_writes_full, View.readCov_full, hf2, hf3, hf4, hf6, hf7, hf8, hf12]

set_option maxHeartbeats 1600000 in
/-- A point of pass 1. -/
theorem body1 (c : Dev nD) (i : grid1.Coords) (e : (i 0).val = 1)
    (a2 : Memref sig .tc .vmem S8x512 .f32) (ha2 : a2.IsWhole)
    (a3 : Memref sig .tc .vmem S4096x512 .f32) (ha3 : a3.IsWhole)
    (a4 : Memref sig .tc .vmem S512x2048 .f32) (ha4 : a4.IsWhole)
    (a5 : Memref sig .tc .vmem S8x1 .f32) (ha5 : a5.IsWhole)
    (x4 : Vec F S512x2048 .f32) (s7 : Vec F S8x1 .i32) (s9 : Vec F S512x8 .f32) (s10 : Vec F S8x512 .f32) (K : PUnit → sProp 𝕄) :
    iprop(owns (c : Thread nD τ) a4 fullShare x4
        ∗ owns (c : Thread nD τ) niS fullShare s7
        ∗ owns (c : Thread nD τ) ntS fullShare s9
        ∗ owns (c : Thread nD τ) nnS fullShare s10
        ∗ (iprop(owns (c : Thread nD τ) a4 fullShare x4
            ∗ owns (c : Thread nD τ) niS fullShare s7
            ∗ owns (c : Thread nD τ) ntS fullShare (ntOf i x4 s7 s9)
            ∗ owns (c : Thread nD τ) nnS fullShare (nnOf (i 1).val (ntOf i x4 s7 s9) s10)) -∗ K ⟨⟩))
      ⊢ wp frame (wpE (defs₀ (F := F)) Variants.none c none) Set.univ
          (cc1__phase2_kernel i a2 ha2 a3 ha3 a4 ha4 a5 ha5 scS (Memref.isWhole_whole _) niS (Memref.isWhole_whole _) mfS (Memref.isWhole_whole _) ntS (Memref.isWhole_whole _) nnS (Memref.isWhole_whole _) keS (Memref.isWhole_whole _) dmS (Memref.isWhole_whole _)) K := by
  simp only [cc1__phase2_kernel_eq_skeleton]; unfold cc1__phase2_kernel_skel
  unfold owns
  iintro ⟨⟨%f4, %hf4, H4⟩, ⟨%f7, %hf7, H7⟩, ⟨%f9, %hf9, H9⟩, ⟨%f10, %hf10, H10⟩, Hk⟩
  have h1 := (c1_iff i).not.mpr (fun h => by omega)
  have h2 := (c2_iff i).not.mpr (by omega)
  have h4 := (c4_iff i).mpr e
  have h8 := (c8_iff i).not.mpr (by omega)
  by_cases k0 : (i 1).val = 0 <;> by_cases k7 : (i 1).val = 7
  all_goals first | exact absurd (k0.symm.trans k7) (by decide) | skip
  all_goals
    first | have h5 := (c5_iff i).mpr k0 | have h5 := (c5_iff i).not.mpr k0
  all_goals
    first | have h6 := (c6_iff i).mpr k0 | have h6 := (c6_iff i).not.mpr (not_not.mpr k0)
  all_goals
    first | have h3 := (c3_iff i).mpr k7 | have h3 := (c3_iff i).not.mpr k7
  all_goals
    first
      | have hnt : ntOf i x4 s7 s9 = k1_pay8 i x4 s7 := if_pos k0
      | have hnt : ntOf i x4 s7 s9 = k1_pay9 i x4 s7 s9 := if_neg k0
  all_goals
    first
      | have hnn : ∀ t, nnOf (i 1).val t s10 = k1_pay10 t := fun _ => if_pos k7
      | have hnn : ∀ t, nnOf (i 1).val t s10 = s10 := fun _ => if_neg k7
  all_goals
    sl_exec
    sl_step
    iapply Hk
    isplitl [H4]
    · iexists _; isplitr; swap; · iexact H4
      ipureintro
      try unfold body1.sl.v37
      try unfold body1.sl.v37_1
      try unfold body1.sl.v37_2
      try unfold body1.sl.H9_1
      try unfold body1.sl.H9_1_1
      try unfold body1.sl.H9_1_2
      try simp -proj -dsimp only [hnt, hnn, View.readAt_full, View.read_writes_full, View.readCov_full, hf4, hf7, hf9, hf10]
    isplitl [H7]
    · iexists _; isplitr; swap; · iexact H7
      ipureintro
      try unfold body1.sl.v37
      try unfold body1.sl.v37_1
      try unfold body1.sl.v37_2
      try unfold body1.sl.H9_1
      try unfold body1.sl.H9_1_1
      try unfold body1.sl.H9_1_2
      try simp -proj -dsimp only [hnt, hnn, View.readAt_full, View.read_writes_full, View.readCov_full, hf4, hf7, hf9, hf10]
    isplitl [H9]
    · iexists _; isplitr; swap; · iexact H9
      ipureintro
      try unfold body1.sl.v37
      try unfold body1.sl.v37_1
      try unfold body1.sl.v37_2
      try unfold body1.sl.H9_1
      try unfold body1.sl.H9_1_1
      try unfold body1.sl.H9_1_2
      try simp -proj -dsimp only [hnt, hnn, View.readAt_full, View.read_writes_full, View.readCov_full, hf4, hf7, hf9, hf10]
    · iexists _; isplitr; swap; · iexact H10
      ipureintro
      try unfold body1.sl.v37
      try unfold body1.sl.v37_1
      try unfold body1.sl.v37_2
      try unfold body1.sl.H9_1
      try unfold body1.sl.H9_1_1
      try unfold body1.sl.H9_1_2
      try simp -proj -dsimp only [hnt, hnn, View.readAt_full, View.read_writes_full, View.readCov_full, hf4, hf7, hf9, hf10]

set_option maxHeartbeats 1600000 in
/-- A point of pass 2. -/
theorem body2 (c : Dev nD) (i : grid1.Coords) (e : (i 0).val = 2)
    (a2 : Memref sig .tc .vmem S8x512 .f32) (ha2 : a2.IsWhole)
    (a3 : Memref sig .tc .vmem S4096x512 .f32) (ha3 : a3.IsWhole)
    (a4 : Memref sig .tc .vmem S512x2048 .f32) (ha4 : a4.IsWhole)
    (a5 : Memref sig .tc .vmem S8x1 .f32) (ha5 : a5.IsWhole)
    (x4 : Vec F S512x2048 .f32) (x5 : Vec F S8x1 .f32) (s6 : Vec F S8x1 .f32) (s10 : Vec F S8x512 .f32) (s11 : Vec F S8x16384 .f32) (s12 : Vec F S8x16384 .f32) (K : PUnit → sProp 𝕄) :
    iprop(owns (c : Thread nD τ) a4 fullShare x4
        ∗ owns (c : Thread nD τ) a5 fullShare x5
        ∗ owns (c : Thread nD τ) scS fullShare s6
        ∗ owns (c : Thread nD τ) nnS fullShare s10
        ∗ owns (c : Thread nD τ) keS fullShare s11
        ∗ owns (c : Thread nD τ) dmS fullShare s12
        ∗ (iprop(owns (c : Thread nD τ) a4 fullShare x4
            ∗ owns (c : Thread nD τ) a5 fullShare (outOf (i 1).val (colPut s11 (i 1).val (k1_pay11 x4 s10)) s12 s6 x5)
            ∗ owns (c : Thread nD τ) scS fullShare s6
            ∗ owns (c : Thread nD τ) nnS fullShare s10
            ∗ owns (c : Thread nD τ) keS fullShare (colPut s11 (i 1).val (k1_pay11 x4 s10))
            ∗ owns (c : Thread nD τ) dmS fullShare s12) -∗ K ⟨⟩))
      ⊢ wp frame (wpE (defs₀ (F := F)) Variants.none c none) Set.univ
          (cc1__phase2_kernel i a2 ha2 a3 ha3 a4 ha4 a5 ha5 scS (Memref.isWhole_whole _) niS (Memref.isWhole_whole _) mfS (Memref.isWhole_whole _) ntS (Memref.isWhole_whole _) nnS (Memref.isWhole_whole _) keS (Memref.isWhole_whole _) dmS (Memref.isWhole_whole _)) K := by
  simp only [cc1__phase2_kernel_eq_skeleton]; unfold cc1__phase2_kernel_skel
  rw [k1_part1_eq_skeleton, k1_part2_eq_skeleton, k1_part3_eq_skeleton]; unfold k1_part1_skel k1_part2_skel k1_part3_skel
  unfold owns
  iintro ⟨⟨%f4, %hf4, H4⟩, ⟨%f5, %hf5, H5⟩, ⟨%f6, %hf6, H6⟩, ⟨%f10, %hf10, H10⟩, ⟨%f11, %hf11, H11⟩, ⟨%f12, %hf12, H12⟩, Hk⟩
  have h1 := (c1_iff i).not.mpr (fun h => by omega)
  have h2 := (c2_iff i).not.mpr (by omega)
  have h4 := (c4_iff i).not.mpr (by omega)
  have h8 := (c8_iff i).mpr e
  have ho : k1_off2 i = ![0, 2048 * (i 1).val] := k1_off2_eq i
  by_cases k7 : (i 1).val = 7
  all_goals
    first | have h9 := (c9_iff i).mpr k7 | have h9 := (c9_iff i).not.mpr k7
  all_goals
    first
      | have hout : ∀ κ, outOf (i 1).val κ s12 s6 x5 = predOf κ s12 s6 := fun _ => if_pos k7
      | have hout : ∀ κ, outOf (i 1).val κ s12 s6 x5 = x5 := fun _ => if_neg k7
  all_goals
    sl_exec
    sl_step
    iapply Hk
    isplitl [H4]
    · iexists _; isplitr; swap; · iexact H4
      ipureintro
      try unfold body2.sl.v35
      try unfold body2.sl.v33
      try unfold body2.sl.H11_1
      try unfold body2.sl.H11_1_1
      try simp -proj -dsimp only [hout, read_put_ke (i 1).val ho, View.readAt_full, View.read_writes_full, View.readCov_full, hf4, hf5, hf6, hf10, hf11, hf12]
    isplitl [H5]
    · iexists _; isplitr; swap; · iexact H5
      ipureintro
      try unfold body2.sl.v35
      try unfold body2.sl.v33
      try unfold body2.sl.H11_1
      try unfold body2.sl.H11_1_1
      try simp -proj -dsimp only [hout, read_put_ke (i 1).val ho, View.readAt_full, View.read_writes_full, View.readCov_full, hf4, hf5, hf6, hf10, hf11, hf12]
      try exact predOf_eq _ _ _
    isplitl [H6]
    · iexists _; isplitr; swap; · iexact H6
      ipureintro
      try unfold body2.sl.v35
      try unfold body2.sl.v33
      try unfold body2.sl.H11_1
      try unfold body2.sl.H11_1_1
      try simp -proj -dsimp only [hout, read_put_ke (i 1).val ho, View.readAt_full, View.read_writes_full, View.readCov_full, hf4, hf5, hf6, hf10, hf11, hf12]
    isplitl [H10]
    · iexists _; isplitr; swap; · iexact H10
      ipureintro
      try unfold body2.sl.v35
      try unfold body2.sl.v33
      try unfold body2.sl.H11_1
      try unfold body2.sl.H11_1_1
      try simp -proj -dsimp only [hout, read_put_ke (i 1).val ho, View.readAt_full, View.read_writes_full, View.readCov_full, hf4, hf5, hf6, hf10, hf11, hf12]
    isplitl [H11]
    · iexists _; isplitr; swap; · iexact H11
      ipureintro
      try unfold body2.sl.v35
      try unfold body2.sl.v33
      try unfold body2.sl.H11_1
      try unfold body2.sl.H11_1_1
      try simp -proj -dsimp only [hout, read_put_ke (i 1).val ho, View.readAt_full, View.read_writes_full, View.readCov_full, hf4, hf5, hf6, hf10, hf11, hf12]
    · iexists _; isplitr; swap; · iexact H12
      ipureintro
      try unfold body2.sl.v35
      try unfold body2.sl.v33
      try unfold body2.sl.H11_1
      try unfold body2.sl.H11_1_1
      try simp -proj -dsimp only [hout, read_put_ke (i 1).val ho, View.readAt_full, View.read_writes_full, View.readCov_full, hf4, hf5, hf6, hf10, hf11, hf12]

end Cert.KernelIdeal.Pred
end
-- ==== Proof.ScoresBody.lean ====
/-
  The first region's kernel body, run once at any grid point. The point's coordinates are the bank block `k` and the row
  block `r`. From the two input blocks, the output's staging buffer and the two scratch buffers at any contents, the body
  ends with the scratch norms at `ynOf`, row `r` of the scratch minima at `rowOf`, and, at the last bank block, the output
  at `k0_pay6` of that row.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.Frame
public import Idealize.ShloMosaic.Lib.VecWindow
public import Idealize.ShloMosaic.Lib.Tactic

@[expose] public section

set_option maxRecDepth 16384

noncomputable section

namespace Cert.KernelIdeal.Scores

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The scratch minima, one row per row block, and the scratch norms of one bank block. -/
abbrev minS : Memref sig .tc .vmem S8x512 .f32 := Memref.whole cc0_scratch0
abbrev ynS : Memref sig .tc .vmem S2048x1 .f32 := Memref.whole cc0_scratch1

/-! ## The branch conditions, by the coordinates -/

theorem cond1_iff (i : grid0.Coords) :
    Scalar.cmpi .ne (Scalar.extui (Scalar.cmpi .eq (BitVec.ofNat 32 (i 1).val) 0#32) : BitVec 32) 0#32 = 1#1 ↔ (i 1).val = 0 := by
  generalize i 1 = a
  revert a
  decide +kernel
theorem cond2_iff (i : grid0.Coords) : k0_cond2 i = 1#1 ↔ (i 0).val = 0 := by
  unfold k0_cond2
  generalize i 0 = a
  revert a
  decide +kernel
theorem cond3_iff (i : grid0.Coords) : k0_cond3 i = 1#1 ↔ (i 0).val ≠ 0 := by
  unfold k0_cond3
  generalize i 0 = a
  revert a
  decide +kernel
theorem cond4_iff (i : grid0.Coords) : k0_cond4 i = 1#1 ↔ (i 0).val = 7 := by
  unfold k0_cond4
  generalize i 0 = a
  revert a
  decide +kernel
theorem off_eq (i : grid0.Coords) : k0_off1 i = ![(i 1).val, 0] := by
  unfold k0_off1
  generalize i 1 = a
  revert a
  decide +kernel

/-! ## What the body leaves -/

/-- Row `r` of the scratch minima fits. -/
theorem row_inb (r : Fin 8) : ∀ a, (![r.val, 0] : Fin 2 → ℕ) a + S1x512.size a ≤ S8x512.size a := by
  intro a; have := r.isLt
  match a with
  | 0 => show r.val + 1 ≤ 8; omega
  | 1 => show 0 + 512 ≤ 512; omega

/-- Row `r` of the scratch minima. -/
abbrev rowGet (s : S8x512.Idx → Elt F .f32) (r : Fin 8) : Vec F S1x512 .f32 :=
  VecWindow.window s ![r.val, 0] S1x512.size (row_inb r)
/-- The scratch minima with row `r` replaced. -/
abbrev rowPut (s : S8x512.Idx → Elt F .f32) (r : Fin 8) (w : Vec F S1x512 .f32) : S8x512.Idx → Elt F .f32 :=
  VecWindow.put s ![r.val, 0] S1x512.size w

/-- The scratch norms after a point: recomputed at the first row block, kept otherwise. -/
def ynOf (r : ℕ) (x : Vec F S2048x512 .f32) (s6 : Vec F S2048x1 .f32) : Vec F S2048x1 .f32 :=
  if r = 0 then k0_pay2 x else s6
/-- The point's row of minima: started at the first bank block, taken with the earlier minima otherwise. -/
def rowOf (k : ℕ) (x : Vec F S2048x512 .f32) (z : Vec F S512x512 .f32) (y : Vec F S2048x1 .f32) (s : Vec F S1x512 .f32) :
    Vec F S1x512 .f32 :=
  if k = 0 then k0_pay4 x z y else k0_pay5 x z y s

/-- The output's staging buffer after a point: written at the last bank block, kept otherwise. -/
def outOf (k : ℕ) (z : Vec F S512x512 .f32) (w : Vec F S1x512 .f32) (x4 : Vec F S1x1x512 .f32) : Vec F S1x1x512 .f32 :=
  if k = 7 then k0_pay6 z w else x4

/-- A row loaded back after a store to it is the row stored. -/
theorem readCov_row {sg : RefSig} {κ : Kind} {sp : Space} {v : View sg κ sp S8x512 .f32}
    (r : Fin 8) {off off' : Fin 2 → ℕ} (h : off = ![r.val, 0]) (h' : off' = ![r.val, 0])
    (inb : ∀ d, off d + S1x512.size d ≤ S8x512.size d) (inb' : ∀ d, off' d + S1x512.size d ≤ S8x512.size d) (w : Vec F S1x512 .f32) :
    v.readCov (Val := Elt F) [⟨Rect.unit (s := S8x512) off' S1x512.size inb', w⟩] (Rect.unit (s := S8x512) off S1x512.size inb).toLoadRect = w := by
  have e := View.readAt_unit (Val := Elt F) v
    (v.writes (Elt F) v.junk [⟨Rect.unit (s := S8x512) off' S1x512.size inb', w⟩]) inb h (row_inb r)
  have e' := View.read_writes_cons_put (Val := Elt F) v v.junk inb' w [] h'
  refine e.trans ?_
  rw [e']
  exact VecWindow.window_put_same _ _ _ _ _

/-- A row stored over scratch minima. -/
theorem read_put_row {sg : RefSig} {κ : Kind} {sp : Space} {v : View sg κ sp S8x512 .f32}
    (r : Fin 8) {off : Fin 2 → ℕ} (h : off = ![r.val, 0]) (inb : ∀ d, off d + S1x512.size d ≤ S8x512.size d)
    (f : v.ty.Contents (Elt F)) (w : Vec F S1x512 .f32) :
    v.read (Elt F) (v.writes (Elt F) f [⟨Rect.unit (s := S8x512) off S1x512.size inb, w⟩])
      = rowPut (v.read (Elt F) f) r w :=
  View.read_writes_cons_put (Val := Elt F) v f inb w [] h

/-- A row loaded from the scratch minima. -/
theorem readAt_row {sg : RefSig} {κ : Kind} {sp : Space} {v : View sg κ sp S8x512 .f32}
    (r : Fin 8) {off : Fin 2 → ℕ} (h : off = ![r.val, 0]) (inb : ∀ d, off d + S1x512.size d ≤ S8x512.size d)
    (f : v.ty.Contents (Elt F)) :
    v.readAt (Elt F) (Rect.unit (s := S8x512) off S1x512.size inb).toLoadRect f = rowGet (v.read (Elt F) f) r :=
  View.readAt_unit (Val := Elt F) v f inb h (row_inb r)

set_option maxHeartbeats 1600000 in
/-- The body's triple, for any continuation. -/
theorem kernelRun (c : Dev nD) (i : grid0.Coords) (r : Fin 8) (hr : (i 1).val = r.val)
    (a2 : Memref sig .tc .vmem S2048x512 .f32) (ha2 : a2.IsWhole)
    (a3 : Memref sig .tc .vmem S512x512 .f32) (ha3 : a3.IsWhole)
    (a4 : Memref sig .tc .vmem S1x1x512 .f32) (ha4 : a4.IsWhole)
    (x2 : Vec F S2048x512 .f32) (x3 : Vec F S512x512 .f32) (x4 : Vec F S1x1x512 .f32)
    (s5 : Vec F S8x512 .f32) (s6 : Vec F S2048x1 .f32) (K : PUnit → sProp 𝕄) :
    iprop(owns (c : Thread nD τ) a2 fullShare x2 ∗ owns (c : Thread nD τ) a3 fullShare x3 ∗ owns (c : Thread nD τ) a4 fullShare x4
        ∗ owns (c : Thread nD τ) minS fullShare s5 ∗ owns (c : Thread nD τ) ynS fullShare s6
        ∗ (iprop(owns (c : Thread nD τ) a2 fullShare x2 ∗ owns (c : Thread nD τ) a3 fullShare x3
            ∗ owns (c : Thread nD τ) a4 fullShare (outOf (i 0).val x3 (rowOf (i 0).val x2 x3 (ynOf (i 1).val x2 s6) (rowGet s5 r)) x4)
            ∗ owns (c : Thread nD τ) minS fullShare (rowPut s5 r (rowOf (i 0).val x2 x3 (ynOf (i 1).val x2 s6) (rowGet s5 r)))
            ∗ owns (c : Thread nD τ) ynS fullShare (ynOf (i 1).val x2 s6)) -∗ K ⟨⟩))
      ⊢ wp frame (wpE (defs₀ (F := F)) Variants.none c none) Set.univ
          (cc0__phase1_kernel i a2 ha2 a3 ha3 a4 ha4 minS (Memref.isWhole_whole _) ynS (Memref.isWhole_whole _)) K := by
  have ho : k0_off1 i = ![r.val, 0] := by rw [off_eq, hr]
  have ho2 : k0_off2 i = ![r.val, 0] := ho
  have ho3 : k0_off3 i = ![r.val, 0] := ho
  simp only [cc0__phase1_kernel_eq_skeleton]; unfold cc0__phase1_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  by_cases e1 : (i 1).val = 0 <;> by_cases e0 : (i 0).val = 0 <;> by_cases e7 : (i 0).val = 7
  all_goals first | exact absurd (e0.symm.trans e7) (by decide) | skip
  all_goals
    first | have h1 := (cond1_iff i).mpr e1 | have h1 := (cond1_iff i).not.mpr e1
  all_goals
    first | have h2 := (cond2_iff i).mpr e0 | have h2 := (cond2_iff i).not.mpr e0
  all_goals
    first | have h3 := (cond3_iff i).mpr e0 | have h3 := (cond3_iff i).not.mpr (not_not.mpr e0)
  all_goals
    first | have h4 := (cond4_iff i).mpr e7 | have h4 := (cond4_iff i).not.mpr e7
  all_goals
    first
      | have hy : ynOf (i 1).val x2 s6 = k0_pay2 x2 := if_pos e1
      | have hy : ynOf (i 1).val x2 s6 = s6 := if_neg e1
  all_goals
    first
      | have hrow : ∀ y s, rowOf (i 0).val x2 x3 y s = k0_pay4 x2 x3 y := fun _ _ => if_pos e0
      | have hrow : ∀ y s, rowOf (i 0).val x2 x3 y s = k0_pay5 x2 x3 y s := fun _ _ => if_neg e0
  all_goals
    first
      | have hout : ∀ w, outOf (i 0).val x3 w x4 = k0_pay6 x3 w := fun _ => if_pos e7
      | have hout : ∀ w, outOf (i 0).val x3 w x4 = x4 := fun _ => if_neg e7
  all_goals
    sl_exec
    sl_step
    iapply Hk
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro
      try unfold kernelRun.sl.v25
      try unfold kernelRun.sl.v25_1
      try unfold kernelRun.sl.H5_1
      try unfold kernelRun.sl.H5_1_1
      try unfold kernelRun.sl.v7
      try unfold kernelRun.sl.v7_1
      try unfold kernelRun.sl.v7_2
      try unfold kernelRun.sl.H6_1
      try unfold kernelRun.sl.H6_1_1
      try unfold kernelRun.sl.H6_1_2
      simp -proj -dsimp only [hout, hy, hrow, View.readAt_full, View.read_writes_full, View.readCov_full, readCov_row r ho3 ho2, readCov_row r ho3 ho,
        read_put_row r ho, read_put_row r ho2, readAt_row r ho2, hf2, hf3, hf4, hf5, hf6]
    isplitl [H5]
    · iexists _; isplitr; swap; · iexact H5
      ipureintro
      try unfold kernelRun.sl.v25
      try unfold kernelRun.sl.v25_1
      try unfold kernelRun.sl.H5_1
      try unfold kernelRun.sl.H5_1_1
      try unfold kernelRun.sl.v7
      try unfold kernelRun.sl.v7_1
      try unfold kernelRun.sl.v7_2
      try unfold kernelRun.sl.H6_1
      try unfold kernelRun.sl.H6_1_1
      try unfold kernelRun.sl.H6_1_2
      simp -proj -dsimp only [hout, hy, hrow, View.readAt_full, View.read_writes_full, View.readCov_full, readCov_row r ho3 ho2, readCov_row r ho3 ho,
        read_put_row r ho, read_put_row r ho2, readAt_row r ho2, hf2, hf3, hf4, hf5, hf6]
    · iexists _; isplitr; swap; · iexact H6
      ipureintro
      try unfold kernelRun.sl.v25
      try unfold kernelRun.sl.v25_1
      try unfold kernelRun.sl.H5_1
      try unfold kernelRun.sl.H5_1_1
      try unfold kernelRun.sl.v7
      try unfold kernelRun.sl.v7_1
      try unfold kernelRun.sl.v7_2
      try unfold kernelRun.sl.H6_1
      try unfold kernelRun.sl.H6_1_1
      try unfold kernelRun.sl.H6_1_2
      simp -proj -dsimp only [hout, hy, hrow, View.readAt_full, View.read_writes_full, View.readCov_full, readCov_row r ho3 ho2, readCov_row r ho3 ho,
        read_put_row r ho, read_put_row r ho2, readAt_row r ho2, hf2, hf3, hf4, hf5, hf6]

end Cert.KernelIdeal.Scores
end
-- ==== Proof.Blocks.lean ====
/-
  The blocks of the two arguments that the grid's points stage: block `k` of 2048 bank rows, and block `r` of 512
  embedding rows, transposed.
-/
module

public import Idealize.ShloMosaic.Lib.ValueIdxCore

@[expose] public section

noncomputable section

namespace Cert.Blocks

open Idealize.ShloMosaic Idealize.ShloMosaic.ValueIdx

variable {α : Type}

/-- Row `i` of bank block `k` in the whole bank. -/
def xRow (k : ℕ) (i : Fin 2048) : Fin 16384 := ⟨2048 * (k % 8) + i.val, by have := i.isLt; omega⟩
/-- Row `j` of row block `r` in the whole embedding. -/
def zRow (r : ℕ) (j : Fin 512) : Fin 4096 := ⟨512 * (r % 8) + j.val, by have := j.isLt; omega⟩

/-- Bank block `k`. -/
def xB (M : (⟨2, ![16384, 512]⟩ : Shape).Idx → α) (k : ℕ) : (⟨2, ![2048, 512]⟩ : Shape).Idx → α :=
  fun i => M (ix2 (xRow k (i 0)) (i 1))
/-- Row block `r`, transposed. -/
def zB (E : (⟨2, ![4096, 512]⟩ : Shape).Idx → α) (r : ℕ) : (⟨2, ![512, 512]⟩ : Shape).Idx → α :=
  fun i => E (ix2 (zRow r (i 1)) (i 0))

end Cert.Blocks

end
-- ==== Proof.LastWrite.lean ====
/-
  An output array whose blocks are written back more than once: from a point on, every write-back is of a block of one array `G`; then
  the array agrees with `G` wherever one of those later write-backs reached, whatever the earlier ones left.
-/
module

public import Idealize.ShloMosaic.Lib.Pipeline.Value

@[expose] public section

noncomputable section

namespace Cert.LastWrite

open Idealize.ShloMosaic Idealize.ShloMosaic.Pipeline Idealize.SL Idealize.SL.RA
open TcCoe Idealize.SL.Sem

variable {nD : Nat} {τ : Topo} {sig : RefSig} {Val : EltTy → Type} {Λ₀ : Sem.Labels}
variable {Ix : Type} [DecidableEq Ix] {Name : Type} [DecidableEq Name] {U : Type} [URA U] {Lvl : Type}
variable {cfg : Cfg sig Λ₀} {c : Dev nD} (dat : Dat τ Val Ix Name U Lvl cfg c)

theorem arrAt_of_late (w : Fin cfg.W) (G : Buf Val ((cfg.win w).arr.view.loc (c.tc : Thread nD τ))) (k : ℕ)
    (hG : ∀ t : Fin cfg.N, k ≤ t.val → (cfg.win w).flush t = true → dat.flushed w t = ((cfg.win w).blk t).view.read Val G)
    (t : Fin cfg.N) (i : ((cfg.win w).arr.view.loc (c.tc : Thread nD τ)).2.ty.Idx) (hk : k ≤ t.val)
    (hf : (cfg.win w).flush t = true) (hi : i ∈ ((cfg.win w).blk t).view.set) (n : ℕ) (ht : t.val < n) : dat.arrAt w n i = G i := by
  induction n with
  | zero => omega
  | succ n ih =>
    rw [dat.arrAt_succ_apply]
    split
    · rename_i hn
      by_cases e : n = t.val
      · have e' : (⟨n, hn⟩ : Fin cfg.N) = t := Fin.ext e
        rw [e', if_pos hf, hG t hk hf, View.write_read_eq_piecewise, Finset.piecewise_eq_of_mem _ _ _ (by rw [View.setOn_univ]; exact hi)]
      · have h := ih (by omega)
        split
        · rename_i hfn
          rw [hG ⟨n, hn⟩ (by show k ≤ n; omega) hfn, View.write_read_eq_piecewise]
          by_cases hin : i ∈ ((cfg.win w).blk ⟨n, hn⟩).view.setOn Finset.univ
          · rw [Finset.piecewise_eq_of_mem _ _ _ hin]
          · rw [Finset.piecewise_eq_of_notMem _ _ _ hin, h]
        · exact h
    · exact ih (by have := t.isLt; omega)

theorem arrAt_eq (w : Fin cfg.W) (G : Buf Val ((cfg.win w).arr.view.loc (c.tc : Thread nD τ))) (k : ℕ)
    (hG : ∀ t : Fin cfg.N, k ≤ t.val → (cfg.win w).flush t = true → dat.flushed w t = ((cfg.win w).blk t).view.read Val G)
    (hcover : ∀ i : ((cfg.win w).arr.view.loc (c.tc : Thread nD τ)).2.ty.Idx,
      ∃ t : Fin cfg.N, k ≤ t.val ∧ (cfg.win w).flush t = true ∧ i ∈ ((cfg.win w).blk t).view.set) : dat.arrAt w cfg.N = G :=
  funext fun i => let ⟨t, hk, hf, hi⟩ := hcover i
  arrAt_of_late dat w G k hG t i hk hf hi cfg.N t.isLt

end Cert.LastWrite
end
-- ==== Proof.ScoresRun.lean ====
/-
  `KernelIdeal`'s first region, the bank scores. The grid visits the eight bank blocks, and within each the eight row blocks. Between two points the
  scratch rows hold the running minima of the row blocks already visited for this bank block, and the earlier ones of the
  others; the norms are the current bank block's. The output window is written back at every point, at the last bank block
  with the finished row block, before with anything: so its array ends at the eight finished row blocks.
-/
module

public import proofs.«01_k».proof.Proof.ScoresBody
public import proofs.«01_k».proof.Proof.Gen.KernelIdeal.Regions
public import proofs.«01_k».proof.Proof.Blocks
public import proofs.«01_k».proof.Proof.LastWrite
public import Idealize.ShloMosaic.Lib.Pipeline.DatRel
public import Idealize.ShloMosaic.Lib.Pipeline.ArrRel
public import Idealize.ShloMosaic.Lib.Pipeline.ValueKit
public import Idealize.ShloMosaic.Lib.Pipeline.FrameBody

@[expose] public section

set_option maxRecDepth 16384

noncomputable section

namespace Cert.KernelIdeal.Scores

open Cert.KernelIdeal Cert.KernelIdeal.Gen Cert.Blocks
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)

variable {F : FTy → Type} [FloatOps F]

local notation "𝕄" => MT nD τ sig Unit (Elt F) ℕ (UR sig nD τ) ℕ

variable (m : (ℓ : Loc nD τ sig) → Buf (Elt F) ℓ)

/-! ## The running minima -/

section Chain

variable (E : Vec F S4096x512 .f32) (M : Vec F S16384x512 .f32)

/-- The minima of row block `r` over the bank blocks up to `k`. -/
def chain (r : ℕ) : ℕ → Vec F S1x512 .f32
  | 0 => k0_pay4 (xB M 0) (zB E r) (k0_pay2 (xB M 0))
  | k + 1 => k0_pay5 (xB M (k + 1)) (zB E r) (k0_pay2 (xB M (k + 1))) (chain r k)

theorem rowOf_chain (r k : ℕ) (s : Vec F S1x512 .f32) (h : 0 < k → s = chain E M r (k - 1)) :
    rowOf k (xB M k) (zB E r) (k0_pay2 (xB M k)) s = chain E M r k := by
  cases k with
  | zero => exact if_pos rfl
  | succ n => rw [h (Nat.succ_pos n)]; exact if_neg (Nat.succ_ne_zero n)

/-- The scratch before point `n`: the rows below `n % 8` are this bank block's minima, the others the previous one's. -/
structure Inv (n : ℕ) (s5 : Vec F S8x512 .f32) (s6 : Vec F S2048x1 .f32) : Prop where
  done : ∀ r : Fin 8, r.val < n % 8 → rowGet s5 r = chain E M r.val (n / 8)
  todo : ∀ r : Fin 8, n % 8 ≤ r.val → 0 < n / 8 → rowGet s5 r = chain E M r.val (n / 8 - 1)
  norms : n % 8 ≠ 0 → s6 = k0_pay2 (xB M (n / 8))

variable {E M}

theorem Inv.yn {n : ℕ} {s5 : Vec F S8x512 .f32} {s6 : Vec F S2048x1 .f32} (h : Inv E M n s5 s6) :
    ynOf (n % 8) (xB M (n / 8)) s6 = k0_pay2 (xB M (n / 8)) := by
  by_cases e : n % 8 = 0
  · exact if_pos e
  · rw [h.norms e]; exact if_neg e

theorem Inv.row {n : ℕ} {s5 : Vec F S8x512 .f32} {s6 : Vec F S2048x1 .f32} (h : Inv E M n s5 s6) (r : Fin 8) (hr : n % 8 = r.val) :
    rowOf (n / 8) (xB M (n / 8)) (zB E (n % 8)) (ynOf (n % 8) (xB M (n / 8)) s6) (rowGet s5 r) = chain E M (n % 8) (n / 8) := by
  rw [h.yn]
  exact rowOf_chain E M _ _ _ fun hk => hr ▸ h.todo r (le_of_eq hr) hk

theorem rowGet_put_same (s : Vec F S8x512 .f32) (r : Fin 8) (w : Vec F S1x512 .f32) : rowGet (rowPut s r w) r = w :=
  VecWindow.window_put_same _ _ _ _ _
theorem rowGet_put_ne (s : Vec F S8x512 .f32) (r r' : Fin 8) (w : Vec F S1x512 .f32) (h : r' ≠ r) : rowGet (rowPut s r w) r' = rowGet s r' :=
  VecWindow.window_put_of_disjoint _ _ _ _ _ _ _ 0 (by
    have : r'.val ≠ r.val := fun e => h (Fin.ext e)
    show r'.val + 1 ≤ r.val ∨ r.val + 1 ≤ r'.val
    omega)

theorem Inv.step {n : ℕ} {s5 : Vec F S8x512 .f32} {s6 : Vec F S2048x1 .f32} (h : Inv E M n s5 s6) (r : Fin 8) (hr : n % 8 = r.val) :
    Inv E M (n + 1) (rowPut s5 r (chain E M (n % 8) (n / 8))) (k0_pay2 (xB M (n / 8))) := by
  have hlt := r.isLt
  by_cases e : n % 8 = 7
  · have e1 : (n + 1) % 8 = 0 := by omega
    have e2 : (n + 1) / 8 = n / 8 + 1 := by omega
    refine ⟨fun r' h' => absurd h' (by omega), fun r' _ _ => ?_, fun h' => absurd e1 h'⟩
    rw [e2, Nat.add_sub_cancel]
    by_cases er : r' = r
    · rw [er, rowGet_put_same, hr]
    · rw [rowGet_put_ne _ _ _ _ er]
      have : r'.val ≠ r.val := fun e => er (Fin.ext e)
      have := r'.isLt
      exact h.done r' (by omega)
  · have e1 : (n + 1) % 8 = n % 8 + 1 := by omega
    have e2 : (n + 1) / 8 = n / 8 := by omega
    refine ⟨fun r' h' => ?_, fun r' h' hk => ?_, fun _ => by rw [e2]⟩
    · rw [e2]
      by_cases er : r' = r
      · rw [er, rowGet_put_same, hr]
      · rw [rowGet_put_ne _ _ _ _ er]
        have : r'.val ≠ r.val := fun e => er (Fin.ext e)
        exact h.done r' (by omega)
    · rw [e2] at hk ⊢
      have er : r' ≠ r := fun er => by rw [er] at h'; omega
      rw [rowGet_put_ne _ _ _ _ er]
      exact h.todo r' (by omega) hk

theorem Inv.zero (s5 : Vec F S8x512 .f32) (s6 : Vec F S2048x1 .f32) : Inv E M 0 s5 s6 :=
  ⟨fun _ h => absurd h (Nat.not_lt_zero _), fun _ _ h => absurd h (Nat.lt_irrefl _), fun h => absurd rfl h⟩

end Chain

/-! ## The blocks the points stage -/

/-- The arguments on core `c`. -/
abbrev argE (c : Dev nD) : Vec F S4096x512 .f32 := m ((c : Thread nD τ).loc main_arg0)
abbrev argM (c : Dev nD) : Vec F S16384x512 .f32 := m ((c : Thread nD τ).loc main_arg1)

theorem coords0 : ∀ t : Fin cfg0.N, (grid0.coords t 0).val = t.val / 8 := (by decide +kernel : ∀ t : Fin grid0.N, _)
theorem coords1 : ∀ t : Fin cfg0.N, (grid0.coords t 1).val = t.val % 8 := (by decide +kernel : ∀ t : Fin grid0.N, _)
theorem idx0 : ∀ t : Fin cfg0.N, win0_0.index t = ![t.val / 8, 0] := (by decide +kernel : ∀ t : Fin grid0.N, _)
theorem idx1 : ∀ t : Fin cfg0.N, win0_1.index t = ![0, t.val % 8] := (by decide +kernel : ∀ t : Fin grid0.N, _)
theorem idx2 : ∀ t : Fin cfg0.N, win0_2.index t = ![t.val % 8, 0, 0] := (by decide +kernel : ∀ t : Fin grid0.N, _)

/-- Window `w`'s block at point `t`, of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V1 m c (Pipeline.arrRef spec0 w))

theorem iblk0 (c : Dev nD) (t : Fin cfg0.N) : iblk m c 0 t = xB (argM m c) (t.val / 8) := by
  have ht := t.isLt
  funext i
  unfold xB xRow
  blk_ext! [iblk, V1, V0, idx0 t]
theorem iblk1 (c : Dev nD) (t : Fin cfg0.N) : iblk m c 1 t = zB (argE m c) (t.val % 8) := by
  have ht := t.isLt
  funext i
  unfold zB zRow
  blk_ext! [iblk, V1, V0, idx1 t]

/-! ## The proof data -/

/-- The finished row block `r`. -/
def outV (c : Dev nD) (r : ℕ) : Vec F S1x1x512 .f32 := k0_pay6 (zB (argE m c) r) (chain (argE m c) (argM m c) r 7)

/-- The other region's buffers, at whatever they hold. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc1_scratch1), ((c : Thread nD τ).loc cc1_scratch1) ↦{fullShare} f)
    ∗ (∃ f : Buf (Elt F) ((c : Thread nD τ).loc cc1_scratch2), ((c : Thread nD τ).loc cc1_scratch2) ↦{fullShare} f)
    ∗ (∃ f : Buf (Elt F) ((c : Thread nD τ).loc cc1_scratch3), ((c : Thread nD τ).loc cc1_scratch3) ↦{fullShare} f)
    ∗ (∃ f : Buf (Elt F) ((c : Thread nD τ).loc cc1_scratch4), ((c : Thread nD τ).loc cc1_scratch4) ↦{fullShare} f)
    ∗ (∃ f : Buf (Elt F) ((c : Thread nD τ).loc cc1_scratch5), ((c : Thread nD τ).loc cc1_scratch5) ↦{fullShare} f)
    ∗ (∃ f : Buf (Elt F) ((c : Thread nD τ).loc cc1_scratch6), ((c : Thread nD τ).loc cc1_scratch6) ↦{fullShare} f))

/-- The scratch between two points. -/
def Phi (c : Dev nD) (n : ℕ) : sProp 𝕄 :=
  iprop((∃ s5 s6, ⌜Inv (argE m c) (argM m c) n s5 s6⌝ ∗ owns (c : Thread nD τ) minS fullShare s5 ∗ owns (c : Thread nD τ) ynS fullShare s6)
    ∗ others c ∗ ∃ r, prngReg c r)

/-- The arrays as the region finds them, the input windows left in place, the output window's contents by `outR`. -/
def dat (c : Dev nD) : Dat τ (Elt F) Unit ℕ (UR sig nD τ) ℕ cfg0 c where
  A w := V1 m c (Pipeline.arrRef spec0 w)
  after w t :=
    match w with
    | ⟨0, _⟩ => iblk m c 0 t
    | ⟨1, _⟩ => iblk m c 1 t
    | ⟨2, _⟩ => outV m c (t.val % 8)
  Φ t := Phi m c t.val
  q _ := fullShare
  owed _ := 0

/-- The output window is the one whose contents are held to a predicate: at the last bank block, the finished row block. -/
def fgt : Fin cfg0.W → Bool := fun | 0 => false | 1 => false | 2 => true | ⟨_ + 3, h⟩ => absurd h (Nat.not_lt.2 (Nat.le_add_left _ _))
def outR (c : Dev nD) : (w : Fin cfg0.W) → Fin cfg0.N → ((cfg0.win w).block.Idx → Elt F (cfg0.win w).elt) → Prop
  | ⟨2, _⟩, t, X => 56 ≤ t.val → (X : Vec F S1x1x512 .f32) = outV m c (t.val % 8)
  | ⟨0, _⟩, _, _ => True
  | ⟨1, _⟩, _, _ => True

theorem A_eq (c : Dev nD) (w : Fin cfg0.W) : (dat m c).A w = V1 m c (Pipeline.arrRef spec0 w) := by dsimp only [dat]
theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem before_0 (c : Dev nD) (t : Fin cfg0.N) (d) : (dat m c).before 0 t d = iblk m c 0 t :=
  ((dat m c).before_in_eq_fetched 0 rfl (fun _ => rfl) (fun _ _ _ => rfl)
    (fun t => by rw [after_0]; unfold Dat.blockOf iblk; rw [A_eq]) t d).trans (by unfold Dat.fetched Dat.blockOf iblk; rw [A_eq]; try rfl)
theorem before_1 (c : Dev nD) (t : Fin cfg0.N) (d) : (dat m c).before 1 t d = iblk m c 1 t :=
  ((dat m c).before_in_eq_fetched 1 rfl (fun _ => rfl) (fun _ _ _ => rfl)
    (fun t => by rw [after_1]; unfold Dat.blockOf iblk; rw [A_eq]) t d).trans (by unfold Dat.fetched Dat.blockOf iblk; rw [A_eq]; try rfl)

/-! ## The body at a point -/

/-- What the body is called with at point `t`, and what it returns. -/
def bodyPre (c : Dev nD) (t : Fin cfg0.N) : sProp 𝕄 :=
  iprop(Phi m c t.val ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare d))
def bodyPost (c : Dev nD) (t : Fin cfg0.N) : sProp 𝕄 :=
  iprop(Phi m c (t.val + 1) ∗ (dat m c).owesAt () t.castSucc
    ∗ owns (c : Thread nD τ) (st0_0 t) fullShare ((dat m c).after 0 t)
    ∗ owns (c : Thread nD τ) (st0_1 t) fullShare ((dat m c).after 1 t)
    ∗ (∃ X, ⌜outR m c 2 t X⌝ ∗ owns (c : Thread nD τ) (st0_2 t) fullShare X))

theorem sound_body (c : Dev nD) (t : Fin cfg0.N) :
    bodyPre m c t ⊢ wp frame (wpE (defs₀ (F := F)) Variants.none c none) Set.univ (bodyAt0 t) (fun _ => bodyPost m c t) := by
  have hN : t.val < 64 := t.isLt
  unfold bodyPre bodyPost Phi bodyAt0
  simp only [before_0, before_1, after_0, after_1]
  rw [iblk0, iblk1]
  iintro ⟨⟨⟨%s5, %s6, %hI, H5, H6⟩, Hg⟩, HO, ⟨%d0, H0⟩, ⟨%d1, H1⟩, ⟨%d2, H2⟩⟩
  have hr : (grid0.coords t 1).val = (⟨t.val % 8, Nat.mod_lt _ (by decide)⟩ : Fin 8).val := coords1 t
  iapply (kernelRun c (grid0.coords t) ⟨t.val % 8, Nat.mod_lt _ (by decide)⟩ hr _ _ _ _ _ _ (xB (argM m c) (t.val / 8)) (zB (argE m c) (t.val % 8)) d2 s5 s6 _)
  isplitl [H0]; · iexact H0
  isplitl [H1]; · iexact H1
  isplitl [H2]; · iexact H2
  isplitl [H5]; · iexact H5
  isplitl [H6]; · iexact H6
  rw [coords0, coords1, hI.row ⟨t.val % 8, Nat.mod_lt _ (by decide)⟩ rfl, hI.yn]
  iintro ⟨H0, H1, H2, H5, H6⟩
  isplitl [H5 H6 Hg]
  · isplitl [H5 H6]
    · iexists _, _
      isplitr; swap
      · isplitl [H5]; · iexact H5
        iexact H6
      ipureintro
      exact hI.step ⟨t.val % 8, Nat.mod_lt _ (by decide)⟩ rfl
    iexact Hg
  isplitl [HO]; · iexact HO
  isplitl [H0]; · iexact H0
  isplitl [H1]; · iexact H1
  iexists _
  isplitr; swap
  · iexact H2
  ipureintro
  intro h
  have e : t.val / 8 = 7 := by omega
  rw [e]
  exact if_pos rfl

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligationRel (dat (F := F) m c) (defs₀ (F := F)) Variants.none () Set.univ fgt (outR m c) := fun t => by
  rw [bigSep_W0, bigSep_W0, defs₀_row]
  refine triple_restated (sound_body m c t) rfl ?_ fun _ => .rfl
  refine sep_mono .rfl (sep_mono .rfl (sep_mono .rfl (sep_mono .rfl ?_)))
  dsimp only [fgt]
  iintro ⟨%Y, -, H2⟩
  iexists Y; iexact H2

/-! ## The region's ends -/

theorem hin (c : Dev nD) : Pipeline.ΦA spec0 c ⊢ (dat (F := F) m c).Φ 0 := by
  show iprop(Pipeline.scopedRest spec0 c ∗ ∃ r, prngReg c r) ⊢ Phi m c 0
  rw [scopedRest0_eq]
  unfold Phi others
  iintro ⟨⟨⟨%s5, H5⟩, ⟨%s6, H6⟩, Ho⟩, Hg⟩
  isplitl [H5 H6]
  · iexists s5, s6
    isplitr
    · ipureintro; exact Inv.zero _ _
    isplitl [H5]
    · simp only [owns_whole]; iexact H5
    · simp only [owns_whole]; iexact H6
  isplitl [Ho]; · iexact Ho
  iexact Hg

theorem hout (c : Dev nD) : (dat (F := F) m c).Φ (Fin.last cfg0.N) ⊢ Pipeline.ΦA spec0 c := by
  show Phi m c 64 ⊢ iprop(Pipeline.scopedRest spec0 c ∗ ∃ r, prngReg c r)
  rw [scopedRest0_eq]
  unfold Phi others
  iintro ⟨⟨%s5, %s6, -, H5, H6⟩, Ho, Hg⟩
  isplitl [H5 H6 Ho]
  · isplitl [H5]
    · iexists s5; simp only [owns_whole]; iexact H5
    isplitl [H6]
    · iexists s6; simp only [owns_whole]; iexact H6
    iexact Ho
  iexact Hg

/-! ## The result array -/

/-- The result: row `r` is the finished row block `r`. -/
def result (c : Dev nD) : Buf (Elt F) ((c : Thread nD τ).loc main_v2) :=
  fun i : S8x1x512.Idx => outV m c (i 0).val (ValueIdx.ix3 (0 : Fin 1) (0 : Fin 1) (i 2))

/-- An index of the result array is in point `t`'s block when its row is `t % 8`. -/
theorem mem_blk (t : Fin cfg0.N) (i : S8x1x512.Idx) (h : (i 0).val = t.val % 8) : i ∈ ((cfg0.win 2).blk t).view.set := by
  show i ∈ ((View.whole main_v2).slice (win0_2.rect t)).set
  rw [View.set_slice_whole, Rect.mem_set_unit]
  have e : win0_2.index t = ![t.val % 8, 0, 0] := idx2 t
  have h1 : (i 1 : Nat) < 1 := (i 1).isLt
  have h2 : (i 2 : Nat) < 512 := (i 2).isLt
  intro a
  match a with
  | ⟨0, _⟩ =>
    show win0_2.index t 0 * 1 ≤ (i 0 : Nat) ∧ (i 0 : Nat) < win0_2.index t 0 * 1 + 1
    rw [e]; show t.val % 8 * 1 ≤ (i 0 : Nat) ∧ (i 0 : Nat) < t.val % 8 * 1 + 1; omega
  | ⟨1, _⟩ =>
    show win0_2.index t 1 * 1 ≤ (i 1 : Nat) ∧ (i 1 : Nat) < win0_2.index t 1 * 1 + 1
    rw [e]; show 0 * 1 ≤ (i 1 : Nat) ∧ (i 1 : Nat) < 0 * 1 + 1; omega
  | ⟨2, _⟩ =>
    show win0_2.index t 2 * 512 ≤ (i 2 : Nat) ∧ (i 2 : Nat) < win0_2.index t 2 * 512 + 512
    rw [e]; show 0 * 512 ≤ (i 2 : Nat) ∧ (i 2 : Nat) < 0 * 512 + 512; omega

theorem block_result (c : Dev nD) (t : Fin cfg0.N) :
    (cfg0.win 2).cut (grid0.coords t) (outV m c (t.val % 8)) = ((cfg0.win 2).blk t).view.read (Elt F) (result m c) := by
  blk_ext! [result, idx2 t]

theorem final {after} (c : Dev nD) (h : ∀ u : Fin cfg0.N, (cfg0.win 2).flush u = true → outR m c 2 u (after 2 u)) :
    (((dat (F := F) m c).toRRel fgt (outR m c)).withAfter after).arrAt 2 cfg0.N = result m c := by
  refine Cert.LastWrite.arrAt_eq (((dat (F := F) m c).toRRel fgt (outR m c)).withAfter after) 2 (result m c) 56 (fun t ht hf => ?_) fun i => ?_
  · show (cfg0.win 2).cut (grid0.coords t) (after 2 t) = _
    rw [h t hf ht]; exact block_result m c t
  · have h0 : (i 0 : Nat) < 8 := (i 0).isLt
    refine ⟨⟨56 + (i 0 : Nat), by show _ < 64; omega⟩, Nat.le_add_right _ _, flush0_2 _, mem_blk _ _ ?_⟩
    show (i 0 : Nat) = (56 + (i 0 : Nat)) % 8; omega

end Cert.KernelIdeal.Scores
end
-- ==== Proof.PredRun.lean ====
/-
  `KernelIdeal`'s second region, the prediction. The grid goes three times through the eight bank blocks. Between two points the scratch holds what the passes have
  finished so far: the maximal scores and their embedding rows after the first point; the squared distances of the blocks visited, and
  after pass 0 the nearest bank rows' indices; in pass 1 the partial gather, after it the gathered rows; in pass 2 the keys of the blocks
  visited. The output window is written once, at the last point.
-/
module

public import proofs.«01_k».proof.Proof.PredBody
public import proofs.«01_k».proof.Proof.ScoresRun
public import Idealize.ShloMosaic.Lib.Pipeline.DatRel
public import Idealize.ShloMosaic.Lib.Pipeline.ArrRel
public import Idealize.ShloMosaic.Lib.Pipeline.ValueKit
public import Idealize.ShloMosaic.Lib.Pipeline.FrameBody

@[expose] public section

set_option maxRecDepth 16384

noncomputable section

namespace Cert.KernelIdeal.Pred

open Cert.KernelIdeal Cert.KernelIdeal.Gen Cert.Blocks
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)

variable {F : FTy → Type} [FloatOps F]

local notation "𝕄" => MT nD τ sig Unit (Elt F) ℕ (UR sig nD τ) ℕ

variable (m : (ℓ : Loc nD τ sig) → Buf (Elt F) ℓ)

/-! ## What the passes compute -/

/-- An array put together from its eight column blocks. -/
def cols (f : ℕ → Vec F S8x2048 .f32) : Vec F S8x16384 .f32 :=
  fun i => f ((i 1).val / 2048) (Idealize.ShloMosaic.ix2 (i 0) ⟨(i 1).val % 2048, Nat.mod_lt _ (by decide)⟩)

/-- A column block put in place: the columns up to and with it are the array's. -/
theorem colPut_cols (f : ℕ → Vec F S8x2048 .f32) (s : Vec F S8x16384 .f32) (k : ℕ)
    (h : ∀ i : S8x16384.Idx, (i 1).val < 2048 * k → s i = cols f i) (i : S8x16384.Idx) (hi : (i 1).val < 2048 * (k + 1)) :
    colPut s k (f k) i = cols f i := by
  have h0 : (i 0).val < 8 := (i 0).isLt
  unfold colPut VecWindow.put
  by_cases hk : (i 1).val < 2048 * k
  · rw [dif_neg (fun hall => by have := (hall 1).1; change 2048 * k ≤ (i 1).val at this; omega)]
    exact h i hk
  · have hall : ∀ a, (![0, 2048 * k] : Fin 2 → ℕ) a ≤ (i a).val ∧ (i a).val < (![0, 2048 * k] : Fin 2 → ℕ) a + S8x2048.size a := fun a => by
      match a with
      | 0 => exact ⟨Nat.zero_le _, by show (i 0).val < 0 + 8; omega⟩
      | 1 => exact ⟨by show 2048 * k ≤ (i 1).val; omega, by show (i 1).val < 2048 * k + 2048; omega⟩
    rw [dif_pos hall]
    have hd : (i 1).val / 2048 = k := by omega
    have hm : (i 1).val % 2048 = (i 1).val - 2048 * k := by omega
    unfold cols
    rw [hd]
    refine congrArg (f k) (funext fun a => Fin.ext ?_)
    match a with
    | 0 => show (i 0).val - 0 = (i 0).val; omega
    | 1 => show (i 1).val - 2048 * k = (i 1).val % 2048; omega

/-- Bank block `k`, transposed. -/
def yB (M : Vec F S16384x512 .f32) (k : ℕ) : Vec F S512x2048 .f32 := fun i => M (Idealize.ShloMosaic.ix2 (xRow k (i 1)) (i 0))

section Chain

variable (S : Vec F S8x512 .f32) (E : Vec F S4096x512 .f32) (M : Vec F S16384x512 .f32)

/-- The point of pass 1 at bank block `k`. -/
def pt (k : ℕ) : Fin cfg1.N := ⟨8 + k % 8, by show 8 + k % 8 < 24; omega⟩

/-- The maximal scores. -/
def fSC : Vec F S8x1 .f32 := k1_pay3 S
/-- Their embedding rows. -/
def fMF : Vec F S8x512 .f32 := k1_pay4 S E
/-- The clipped squared distances of those rows to the bank's. -/
def fDM : Vec F S8x16384 .f32 := cols fun k => k1_pay5 (yB M k) (fMF S E)
/-- The nearest bank rows. -/
def fNI : Vec F S8x1 .i32 := k1_pay6 (fDM S E M)
/-- The nearest rows gathered from the bank blocks up to `k`, as columns. -/
def fNT : ℕ → Vec F S512x8 .f32
  | 0 => k1_pay8 (grid1.coords (pt 0)) (yB M 0) (fNI S E M)
  | k + 1 => k1_pay9 (grid1.coords (pt (k + 1))) (yB M (k + 1)) (fNI S E M) (fNT k)
/-- The nearest rows. -/
def fNN : Vec F S8x512 .f32 := k1_pay10 (fNT S E M 7)
/-- The sort keys. -/
def fKE : Vec F S8x16384 .f32 := cols fun k => k1_pay11 (yB M k) (fNN S E M)
/-- The prediction. -/
def fPR : Vec F S8x1 .f32 := predOf (fKE S E M) (fDM S E M) (fSC S)

/-- The scratch before point `n`. -/
structure Inv (n : ℕ) (s6 : Vec F S8x1 .f32) (s7 : Vec F S8x1 .i32) (s8 : Vec F S8x512 .f32) (s9 : Vec F S512x8 .f32)
    (s10 : Vec F S8x512 .f32) (s11 s12 : Vec F S8x16384 .f32) : Prop where
  sc : 0 < n → s6 = fSC S
  ni : 8 ≤ n → s7 = fNI S E M
  mf : 0 < n → s8 = fMF S E
  nt : 8 < n → n ≤ 16 → s9 = fNT S E M (n - 9)
  nn : 16 ≤ n → s10 = fNN S E M
  ke : ∀ i : S8x16384.Idx, (i 1).val < 2048 * (n - 16) → s11 i = fKE S E M i
  dm : ∀ i : S8x16384.Idx, (i 1).val < 2048 * n → s12 i = fDM S E M i

variable {S E M}
variable {n : ℕ} {s6 : Vec F S8x1 .f32} {s7 : Vec F S8x1 .i32} {s8 : Vec F S8x512 .f32} {s9 : Vec F S512x8 .f32}
  {s10 : Vec F S8x512 .f32} {s11 s12 : Vec F S8x16384 .f32}

theorem Inv.zero : Inv S E M 0 s6 s7 s8 s9 s10 s11 s12 :=
  ⟨fun h => absurd h (Nat.lt_irrefl _), fun h => absurd h (by decide), fun h => absurd h (Nat.lt_irrefl _), fun h => absurd h (by decide),
    fun h => absurd h (by decide), fun i h => absurd h (by omega), fun i h => absurd h (by omega)⟩

/-- An array known at every column is known. -/
theorem all_cols {s g : Vec F S8x16384 .f32} {n : ℕ} (hn : 8 ≤ n) (h : ∀ i : S8x16384.Idx, (i 1).val < 2048 * n → s i = g i) : s = g :=
  funext fun i => h i (by have : (i 1).val < 16384 := (i 1).isLt; omega)

theorem Inv.step0 (h : Inv S E M n s6 s7 s8 s9 s10 s11 s12) (hn : n < 8) :
    Inv S E M (n + 1) (scOf n S s6) (niOf n (colPut s12 n (k1_pay5 (yB M n) (mfOf n S E s8))) s7) (mfOf n S E s8) s9 s10 s11
      (colPut s12 n (k1_pay5 (yB M n) (mfOf n S E s8))) := by
  have hmf : mfOf n S E s8 = fMF S E := by
    by_cases e : n = 0
    · exact if_pos e
    · rw [h.mf (by omega)]; exact if_neg e
  have hsc : scOf n S s6 = fSC S := by
    by_cases e : n = 0
    · exact if_pos e
    · rw [h.sc (by omega)]; exact if_neg e
  have hdm : ∀ i : S8x16384.Idx, (i 1).val < 2048 * (n + 1) → colPut s12 n (k1_pay5 (yB M n) (fMF S E)) i = fDM S E M i :=
    fun i hi => colPut_cols (fun k => k1_pay5 (yB M k) (fMF S E)) s12 n h.dm i hi
  rw [hmf, hsc]
  refine ⟨fun _ => rfl, fun h8 => ?_, fun _ => rfl, fun h' => absurd h' (by omega), fun h' => absurd h' (by omega),
    fun i hi => absurd hi (by omega), hdm⟩
  have e : n = 7 := by omega
  rw [all_cols h8 hdm]
  exact if_pos e

theorem Inv.step1 (h : Inv S E M n s6 s7 s8 s9 s10 s11 s12) (hn : 8 ≤ n) (hn' : n < 16) (k : ℕ) (hk : n = 8 + k) (i : grid1.Coords)
    (hi : i = grid1.coords (pt k)) (hi1 : (i 1).val = k) :
    Inv S E M (n + 1) s6 s7 s8 (ntOf i (yB M k) s7 s9) (nnOf k (ntOf i (yB M k) s7 s9) s10) s11 s12 := by
  have hnt : ntOf i (yB M k) s7 s9 = fNT S E M k := by
    rw [h.ni hn]
    unfold ntOf
    rw [hi1]
    cases k with
    | zero => rw [if_pos rfl, hi]; rfl
    | succ j =>
      rw [if_neg (Nat.succ_ne_zero j), h.nt (by omega) (by omega), hi]
      have : n - 9 = j := by omega
      rw [this]; rfl
  rw [hnt]
  refine ⟨fun _ => h.sc (by omega), fun _ => h.ni hn, fun _ => h.mf (by omega), fun _ _ => ?_, fun h' => ?_, fun i hi => absurd hi (by omega),
    fun i _ => h.dm i (by have : (i 1).val < 16384 := (i 1).isLt; omega)⟩
  · have : n + 1 - 9 = k := by omega
    rw [this]
  · have e : k = 7 := by omega
    subst e
    exact if_pos rfl

theorem Inv.step2 (h : Inv S E M n s6 s7 s8 s9 s10 s11 s12) (hn : 16 ≤ n) (k : ℕ) (hk : n = 16 + k) :
    Inv S E M (n + 1) s6 s7 s8 s9 s10 (colPut s11 k (k1_pay11 (yB M k) s10)) s12 := by
  rw [h.nn hn]
  refine ⟨fun _ => h.sc (by omega), fun _ => h.ni (by omega), fun _ => h.mf (by omega), fun _ h' => absurd h' (by omega), fun _ => rfl,
    fun i hi => ?_, fun i _ => h.dm i (by have : (i 1).val < 16384 := (i 1).isLt; omega)⟩
  exact colPut_cols (fun k => k1_pay11 (yB M k) (fNN S E M)) s11 k (fun i hi => h.ke i (by omega)) i (by omega)

theorem Inv.out (h : Inv S E M n s6 s7 s8 s9 s10 s11 s12) (hn : n = 23) (x : Vec F S8x1 .f32) :
    outOf 7 (colPut s11 7 (k1_pay11 (yB M 7) s10)) s12 s6 x = fPR S E M := by
  have h' := h.step2 (by omega) 7 (by omega)
  rw [all_cols (n := 8) (le_refl _) (fun i hi => h'.ke i (by omega)), all_cols (n := 24) (by decide) (fun i hi => h'.dm i (by omega)), h'.sc (by omega)]
  exact if_pos rfl

end Chain

/-! ## The blocks the points stage -/

/-- The arguments on core `c`, and the scores the first region has left. -/
abbrev argE (c : Dev nD) : Vec F S4096x512 .f32 := m ((c : Thread nD τ).loc main_arg0)
abbrev argM (c : Dev nD) : Vec F S16384x512 .f32 := m ((c : Thread nD τ).loc main_arg1)
def scores (c : Dev nD) : Vec F S8x512 .f32 := fun i => Scores.result m c (Shape.reshapeEquiv shapeCasts_S8x1x512_S8x512 i)

/-- The prediction on core `c`. -/
def outV (c : Dev nD) : Vec F S8x1 .f32 := fPR (scores m c) (argE m c) (argM m c)

/-- What the two regions leave in their output arrays. -/
def outs : Outs (F := F) := fun _ r c =>
  Function.update (Function.update (V0 m c) main_v2 (Scores.result m c)) main_v4 (outV m c) (Proc.devRef .tc r)

theorem outs_v2 (n : ℕ) (c : Dev nD) : outs m n main_v2 c = Scores.result m c := by
  unfold outs
  rw [Function.update_of_ne (by decide), Function.update_self]
theorem outs_v4 (n : ℕ) (c : Dev nD) : outs m n main_v4 c = outV m c := Function.update_self _ _ _

/-- What the region finds in its input arrays. -/
theorem V3_v3 (c : Dev nD) : V3 m (outs m) c main_v3 = scores m c := by
  have h : V2 m (outs m) c main_v2 = Scores.result m c := (Function.update_self _ _ _).trans (outs_v2 m 2 c)
  show (fun i => V2 m (outs m) c main_v2 _) = scores m c
  rw [h]; rfl
theorem V3_arg0 (c : Dev nD) : V3 m (outs m) c main_arg0 = argE m c :=
  (V3_of m (outs m) c main_arg0 (by decide)).trans ((V2_of m (outs m) c main_arg0 (by decide)).trans (V1_of m c main_arg0 (by decide)))
theorem V3_v0 (c : Dev nD) : V3 m (outs m) c main_v0 = V1 m c main_v0 :=
  (V3_of m (outs m) c main_v0 (by decide)).trans (V2_of m (outs m) c main_v0 (by decide))

theorem coords0 : ∀ t : Fin cfg1.N, (grid1.coords t 0).val = t.val / 8 := (by decide +kernel : ∀ t : Fin grid1.N, _)
theorem coords1 : ∀ t : Fin cfg1.N, (grid1.coords t 1).val = t.val % 8 := (by decide +kernel : ∀ t : Fin grid1.N, _)
theorem idx0 : ∀ t : Fin cfg1.N, win1_0.index t = ![0, 0] := (by decide +kernel : ∀ t : Fin grid1.N, _)
theorem idx1 : ∀ t : Fin cfg1.N, win1_1.index t = ![0, 0] := (by decide +kernel : ∀ t : Fin grid1.N, _)
theorem idx2 : ∀ t : Fin cfg1.N, win1_2.index t = ![0, t.val % 8] := (by decide +kernel : ∀ t : Fin grid1.N, _)
theorem idx3 : ∀ t : Fin cfg1.N, win1_3.index t = ![0, 0] := (by decide +kernel : ∀ t : Fin grid1.N, _)

/-- Window `w`'s block at point `t`, of its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V3 m (outs m) c (Pipeline.arrRef spec1 w))

theorem iblk0 (c : Dev nD) (t : Fin cfg1.N) : iblk m c 0 t = scores m c := by
  have ht := t.isLt
  funext i
  show V3 m (outs m) c main_v3 _ = _
  rw [V3_v3]
  generalize scores m c = S
  blk_ext! [idx0 t]
theorem iblk1 (c : Dev nD) (t : Fin cfg1.N) : iblk m c 1 t = argE m c := by
  have ht := t.isLt
  funext i
  show V3 m (outs m) c main_arg0 _ = _
  rw [V3_arg0]
  blk_ext! [idx1 t]
theorem iblk2 (c : Dev nD) (t : Fin cfg1.N) : iblk m c 2 t = yB (argM m c) (t.val % 8) := by
  have ht := t.isLt
  funext i
  unfold yB xRow
  show V3 m (outs m) c main_v0 _ = _
  rw [V3_v0]
  blk_ext! [V1, V0, idx2 t]

/-! ## The proof data -/

/-- The other region's buffers, each at whatever it holds. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- The scratch between two points. -/
def scratch (c : Dev nD) (n : ℕ) : sProp 𝕄 :=
  iprop(∃ s6 s7 s8 s9 s10 s11 s12, ⌜Inv (scores m c) (argE m c) (argM m c) n s6 s7 s8 s9 s10 s11 s12⌝
    ∗ owns (c : Thread nD τ) scS fullShare s6 ∗ owns (c : Thread nD τ) niS fullShare s7 ∗ owns (c : Thread nD τ) mfS fullShare s8
    ∗ owns (c : Thread nD τ) ntS fullShare s9 ∗ owns (c : Thread nD τ) nnS fullShare s10 ∗ owns (c : Thread nD τ) keS fullShare s11
    ∗ owns (c : Thread nD τ) dmS fullShare s12)
/-- What is kept between two points. -/
def Phi (c : Dev nD) (n : ℕ) : sProp 𝕄 := iprop(scratch m c n ∗ others c ∗ ∃ r, prngReg c r)

/-- The arrays as the region finds them, the input windows left in place, the output window's contents by `outR`. -/
def dat (c : Dev nD) : Dat τ (Elt F) Unit ℕ (UR sig nD τ) ℕ cfg1 c where
  A w := V3 m (outs m) c (Pipeline.arrRef spec1 w)
  after w t :=
    match w with
    | ⟨0, _⟩ => iblk m c 0 t
    | ⟨1, _⟩ => iblk m c 1 t
    | ⟨2, _⟩ => iblk m c 2 t
    | ⟨3, _⟩ => outV m c
  Φ t := Phi m c t.val
  q _ := fullShare
  owed _ := 0

/-- The output window is the one whose contents are held to a predicate: at the last point, the prediction. -/
def fgt : Fin cfg1.W → Bool :=
  fun | 0 => false | 1 => false | 2 => false | 3 => true | ⟨_ + 4, h⟩ => absurd h (Nat.not_lt.2 (Nat.le_add_left _ _))
def outR (c : Dev nD) : (w : Fin cfg1.W) → Fin cfg1.N → ((cfg1.win w).block.Idx → Elt F (cfg1.win w).elt) → Prop
  | ⟨3, _⟩, t, X => 23 ≤ t.val → (X : Vec F S8x1 .f32) = outV m c
  | ⟨0, _⟩, _, _ => True
  | ⟨1, _⟩, _, _ => True
  | ⟨2, _⟩, _, _ => True

theorem A_eq (c : Dev nD) (w : Fin cfg1.W) : (dat m c).A w = V3 m (outs m) c (Pipeline.arrRef spec1 w) := by dsimp only [dat]
theorem after_0 (c : Dev nD) (t : Fin cfg1.N) : (dat m c).after 0 t = iblk m c 0 t := by dsimp only [dat]
theorem after_1 (c : Dev nD) (t : Fin cfg1.N) : (dat m c).after 1 t = iblk m c 1 t := by dsimp only [dat]
theorem after_2 (c : Dev nD) (t : Fin cfg1.N) : (dat m c).after 2 t = iblk m c 2 t := by dsimp only [dat]
theorem before_0 (c : Dev nD) (t : Fin cfg1.N) (d) : (dat m c).before 0 t d = iblk m c 0 t :=
  ((dat m c).before_in_eq_fetched 0 rfl (fun _ => rfl) (fun _ _ _ => rfl)
    (fun t => by rw [after_0]; unfold Dat.blockOf iblk; rw [A_eq]) t d).trans (by unfold Dat.fetched Dat.blockOf iblk; rw [A_eq]; try rfl)
theorem before_1 (c : Dev nD) (t : Fin cfg1.N) (d) : (dat m c).before 1 t d = iblk m c 1 t :=
  ((dat m c).before_in_eq_fetched 1 rfl (fun _ => rfl) (fun _ _ _ => rfl)
    (fun t => by rw [after_1]; unfold Dat.blockOf iblk; rw [A_eq]) t d).trans (by unfold Dat.fetched Dat.blockOf iblk; rw [A_eq]; try rfl)
theorem before_2 (c : Dev nD) (t : Fin cfg1.N) (d) : (dat m c).before 2 t d = iblk m c 2 t :=
  ((dat m c).before_in_eq_fetched 2 rfl (fun _ => rfl) (fun _ _ _ => rfl)
    (fun t => by rw [after_2]; unfold Dat.blockOf iblk; rw [A_eq]) t d).trans (by unfold Dat.fetched Dat.blockOf iblk; rw [A_eq]; try rfl)

/-! ## The body at a point -/

/-- What the body is called with at point `t`, and what it returns. -/
def bodyPre (c : Dev nD) (t : Fin cfg1.N) : sProp 𝕄 :=
  iprop(Phi m c t.val ∗ (dat m c).owesAt () t.castSucc
    ∗ (∃ d, owns (c : Thread nD τ) (st1_0 t) fullShare ((dat m c).before 0 t d))
    ∗ (∃ d, owns (c : Thread nD τ) (st1_1 t) fullShare ((dat m c).before 1 t d))
    ∗ (∃ d, owns (c : Thread nD τ) (st1_2 t) fullShare ((dat m c).before 2 t d))
    ∗ (∃ d, owns (c : Thread nD τ) (st1_3 t) fullShare d))
def bodyPost (c : Dev nD) (t : Fin cfg1.N) : sProp 𝕄 :=
  iprop(Phi m c (t.val + 1) ∗ (dat m c).owesAt () t.castSucc
    ∗ owns (c : Thread nD τ) (st1_0 t) fullShare ((dat m c).after 0 t)
    ∗ owns (c : Thread nD τ) (st1_1 t) fullShare ((dat m c).after 1 t)
    ∗ owns (c : Thread nD τ) (st1_2 t) fullShare ((dat m c).after 2 t)
    ∗ (∃ X, ⌜outR m c 3 t X⌝ ∗ owns (c : Thread nD τ) (st1_3 t) fullShare X))

theorem sound_body (c : Dev nD) (t : Fin cfg1.N) :
    bodyPre m c t ⊢ wp frame (wpE (defs₀ (F := F)) Variants.none c none) Set.univ (bodyAt1 t) (fun _ => bodyPost m c t) := by
  have hN : t.val < 24 := t.isLt
  have h1 := coords1 t
  unfold bodyPre bodyPost Phi scratch bodyAt1
  simp only [before_0, before_1, before_2, after_0, after_1, after_2]
  rw [iblk0, iblk1, iblk2]
  iintro ⟨⟨⟨%s6, %s7, %s8, %s9, %s10, %s11, %s12, %hI, H6, H7, H8, H9, H10, H11, H12⟩, Hg⟩, HO, ⟨%d0, H0⟩, ⟨%d1, H1⟩, ⟨%d2, H2⟩, ⟨%d3, H3⟩⟩
  have hp : t.val / 8 = 0 ∨ t.val / 8 = 1 ∨ t.val / 8 = 2 := by omega
  rcases hp with hp | hp | hp
  · have hk : t.val % 8 = t.val := by omega
    iapply (body0 c (grid1.coords t) ((coords0 t).trans hp) _ _ _ _ _ _ _ _ (scores m c) (argE m c) (yB (argM m c) (t.val % 8)) s6 s7 s8 s12 _)
    isplitl [H0]; · iexact H0
    isplitl [H1]; · iexact H1
    isplitl [H2]; · iexact H2
    isplitl [H6]; · iexact H6
    isplitl [H7]; · iexact H7
    isplitl [H8]; · iexact H8
    isplitl [H12]; · iexact H12
    rw [h1, hk]
    iintro ⟨H0, H1, H2, H6, H7, H8, H12⟩
    isplitl [H6 H7 H8 H9 H10 H11 H12 Hg]
    · isplitl [H6 H7 H8 H9 H10 H11 H12]
      · iexists _, _, _, _, _, _, _
        isplitr; swap
        · isplitl [H6]; · iexact H6
          isplitl [H7]; · iexact H7
          isplitl [H8]; · iexact H8
          isplitl [H9]; · iexact H9
          isplitl [H10]; · iexact H10
          isplitl [H11]; · iexact H11
          iexact H12
        ipureintro
        exact hI.step0 (by omega)
      iexact Hg
    isplitl [HO]; · iexact HO
    isplitl [H0]; · iexact H0
    isplitl [H1]; · iexact H1
    isplitl [H2]; · iexact H2
    iexists d3
    isplitr; swap
    · iexact H3
    ipureintro
    intro h
    exact absurd h (by omega)
  · iapply (body1 c (grid1.coords t) ((coords0 t).trans hp) _ _ _ _ _ _ _ _ (yB (argM m c) (t.val % 8)) s7 s9 s10 _)
    isplitl [H2]; · iexact H2
    isplitl [H7]; · iexact H7
    isplitl [H9]; · iexact H9
    isplitl [H10]; · iexact H10
    rw [h1]
    iintro ⟨H2, H7, H9, H10⟩
    isplitl [H6 H7 H8 H9 H10 H11 H12 Hg]
    · isplitl [H6 H7 H8 H9 H10 H11 H12]
      · iexists _, _, _, _, _, _, _
        isplitr; swap
        · isplitl [H6]; · iexact H6
          isplitl [H7]; · iexact H7
          isplitl [H8]; · iexact H8
          isplitl [H9]; · iexact H9
          isplitl [H10]; · iexact H10
          isplitl [H11]; · iexact H11
          iexact H12
        ipureintro
        refine hI.step1 (by omega) (by omega) (t.val % 8) (by omega) (grid1.coords t) (congrArg grid1.coords (Fin.ext ?_)) h1
        show t.val = 8 + t.val % 8 % 8
        omega
      iexact Hg
    isplitl [HO]; · iexact HO
    isplitl [H0]; · iexact H0
    isplitl [H1]; · iexact H1
    isplitl [H2]; · iexact H2
    iexists d3
    isplitr; swap
    · iexact H3
    ipureintro
    intro h
    exact absurd h (by omega)
  · iapply (body2 c (grid1.coords t) ((coords0 t).trans hp) _ _ _ _ _ _ _ _ (yB (argM m c) (t.val % 8)) d3 s6 s10 s11 s12 _)
    isplitl [H2]; · iexact H2
    isplitl [H3]; · iexact H3
    isplitl [H6]; · iexact H6
    isplitl [H10]; · iexact H10
    isplitl [H11]; · iexact H11
    isplitl [H12]; · iexact H12
    rw [h1]
    iintro ⟨H2, H3, H6, H10, H11, H12⟩
    isplitl [H6 H7 H8 H9 H10 H11 H12 Hg]
    · isplitl [H6 H7 H8 H9 H10 H11 H12]
      · iexists _, _, _, _, _, _, _
        isplitr; swap
        · isplitl [H6]; · iexact H6
          isplitl [H7]; · iexact H7
          isplitl [H8]; · iexact H8
          isplitl [H9]; · iexact H9
          isplitl [H10]; · iexact H10
          isplitl [H11]; · iexact H11
          iexact H12
        ipureintro
        exact hI.step2 (by omega) (t.val % 8) (by omega)
      iexact Hg
    isplitl [HO]; · iexact HO
    isplitl [H0]; · iexact H0
    isplitl [H1]; · iexact H1
    isplitl [H2]; · iexact H2
    iexists _
    isplitr; swap
    · iexact H3
    ipureintro
    intro h
    have e : t.val % 8 = 7 := by omega
    rw [e]
    exact hI.out (by omega) d3

theorem defs₀_row (t : Fin cfg1.N) : defs₀ (F := F) .tc cfg1.body (cfg1.bodyArgs t (cfg1.slots t)) = bodyAt1 t := by
  unfold defs₀; rw [Defs.onTc_tc]

theorem body_obligation (c : Dev nD) :
    BodyObligationRel (dat (F := F) m c) (defs₀ (F := F)) Variants.none () Set.univ fgt (outR m c) := fun t => by
  rw [bigSep_W1, bigSep_W1, defs₀_row]
  refine triple_restated (sound_body m c t) rfl ?_ fun _ => .rfl
  refine sep_mono .rfl (sep_mono .rfl (sep_mono .rfl (sep_mono .rfl (sep_mono .rfl ?_))))
  dsimp only [fgt]
  iintro ⟨%Y, -, H3⟩
  iexists Y; iexact H3

/-! ## The region's ends -/

theorem hin (c : Dev nD) : Pipeline.ΦA spec1 c ⊢ (dat (F := F) m c).Φ 0 := by
  show iprop(Pipeline.scopedRest spec1 c ∗ ∃ r, prngReg c r) ⊢ Phi m c 0
  rw [scopedRest1_eq]
  unfold Phi scratch others
  simp only [owns_whole]
  iintro ⟨⟨Ha, Hb, Hc, Hd, He, Hf, Hi, Hj, ⟨%s6, H6⟩, ⟨%s7, H7⟩, ⟨%s8, H8⟩, ⟨%s9, H9⟩, ⟨%s10, H10⟩, ⟨%s11, H11⟩, ⟨%s12, H12⟩⟩, Hg⟩
  isplitl [H6 H7 H8 H9 H10 H11 H12]
  · iexists s6, s7, s8, s9, s10, s11, s12
    isplitr
    · ipureintro; exact Inv.zero
    isplitl [H6]; · iexact H6
    isplitl [H7]; · iexact H7
    isplitl [H8]; · iexact H8
    isplitl [H9]; · iexact H9
    isplitl [H10]; · iexact H10
    isplitl [H11]; · iexact H11
    iexact H12
  isplitl [Ha Hb Hc Hd He Hf Hi Hj]
  · isplitl [Ha]; · iexact Ha
    isplitl [Hb]; · iexact Hb
    isplitl [Hc]; · iexact Hc
    isplitl [Hd]; · iexact Hd
    isplitl [He]; · iexact He
    isplitl [Hf]; · iexact Hf
    isplitl [Hi]; · iexact Hi
    iexact Hj
  iexact Hg

theorem hout (c : Dev nD) : (dat (F := F) m c).Φ (Fin.last cfg1.N) ⊢ Pipeline.ΦA spec1 c := by
  show Phi m c 24 ⊢ iprop(Pipeline.scopedRest spec1 c ∗ ∃ r, prngReg c r)
  rw [scopedRest1_eq]
  unfold Phi scratch others
  simp only [owns_whole]
  iintro ⟨⟨%s6, %s7, %s8, %s9, %s10, %s11, %s12, -, H6, H7, H8, H9, H10, H11, H12⟩, ⟨Ha, Hb, Hc, Hd, He, Hf, Hi, Hj⟩, Hg⟩
  isplitl [H6 H7 H8 H9 H10 H11 H12 Ha Hb Hc Hd He Hf Hi Hj]
  · isplitl [Ha]; · iexact Ha
    isplitl [Hb]; · iexact Hb
    isplitl [Hc]; · iexact Hc
    isplitl [Hd]; · iexact Hd
    isplitl [He]; · iexact He
    isplitl [Hf]; · iexact Hf
    isplitl [Hi]; · iexact Hi
    isplitl [Hj]; · iexact Hj
    isplitl [H6]; · iexists s6; iexact H6
    isplitl [H7]; · iexists s7; iexact H7
    isplitl [H8]; · iexists s8; iexact H8
    isplitl [H9]; · iexists s9; iexact H9
    isplitl [H10]; · iexists s10; iexact H10
    isplitl [H11]; · iexists s11; iexact H11
    iexists s12; iexact H12
  iexact Hg

/-! ## The result array -/

/-- Every index of the result array is in the one block. -/
theorem mem_blk (t : Fin cfg1.N) (i : S8x1.Idx) : i ∈ ((cfg1.win 3).blk t).view.set := by
  show i ∈ ((View.whole main_v4).slice (win1_3.rect t)).set
  rw [View.set_slice_whole, Rect.mem_set_unit]
  have e : win1_3.index t = ![0, 0] := idx3 t
  have h0 : (i 0 : Nat) < 8 := (i 0).isLt
  have h1 : (i 1 : Nat) < 1 := (i 1).isLt
  intro a
  match a with
  | ⟨0, _⟩ =>
    show win1_3.index t 0 * 8 ≤ (i 0 : Nat) ∧ (i 0 : Nat) < win1_3.index t 0 * 8 + 8
    rw [e]; show 0 * 8 ≤ (i 0 : Nat) ∧ (i 0 : Nat) < 0 * 8 + 8; omega
  | ⟨1, _⟩ =>
    show win1_3.index t 1 * 1 ≤ (i 1 : Nat) ∧ (i 1 : Nat) < win1_3.index t 1 * 1 + 1
    rw [e]; show 0 * 1 ≤ (i 1 : Nat) ∧ (i 1 : Nat) < 0 * 1 + 1; omega

theorem block_whole (t : Fin cfg1.N) (X : Vec F S8x1 .f32) :
    (cfg1.win 3).cut (grid1.coords t) X = ((cfg1.win 3).blk t).view.read (Elt F) X := by
  funext i
  show X _ = X _
  refine congrArg X (funext fun a => Fin.ext ?_)
  refine Eq.trans ?_ (win1_3.rect_emb_val_of_index_zero t a ?_ i).symm
  · rfl
  · rw [idx3 t]
    match a with
    | ⟨0, _⟩ => rfl
    | ⟨1, _⟩ => rfl

theorem block_result (c : Dev nD) (t : Fin cfg1.N) :
    (cfg1.win 3).cut (grid1.coords t) (outV m c) = ((cfg1.win 3).blk t).view.read (Elt F) (outV m c) :=
  block_whole t (outV m c)

theorem final {after} (c : Dev nD) (h : ∀ u : Fin cfg1.N, (cfg1.win 3).flush u = true → outR m c 3 u (after 3 u)) :
    (((dat (F := F) m c).toRRel fgt (outR m c)).withAfter after).arrAt 3 cfg1.N = outV m c := by
  refine Cert.LastWrite.arrAt_eq (((dat (F := F) m c).toRRel fgt (outR m c)).withAfter after) 3 (outV m c) 23 (fun t ht hf => ?_) fun i => ?_
  · show (cfg1.win 3).cut (grid1.coords t) (after 3 t) = _
    rw [h t hf ht]; exact block_result m c t
  · exact ⟨⟨23, by decide⟩, le_refl _, (flush1_3 _).mpr rfl, mem_blk _ _⟩

end Cert.KernelIdeal.Pred
end
-- ==== Proof.KernelRun.lean ====
/-
  `KernelIdeal`'s run: the transposes, the region of the scores, the reshape of its output, the region of the prediction. Between
  two of these every unscoped buffer is held whole, at the contents the items before leave.
-/
module

public import proofs.«01_k».proof.Proof.PredRun
public import Idealize.ShloMosaic.Lib.Pipeline.FrameTail
public import Idealize.ShloMosaic.Lib.Pipeline.RegionsLoop
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat HostSeg)
open Cert.KernelIdeal.Pred (outs scores argE argM outV)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions' proof data -/

def dats : (p : Fin 2) → (c : Dev nD) → Dat τ (Elt F) Unit ℕ (UR sig nD τ) ℕ (cfgs p) c
  | 0 => Scores.dat m
  | 1 => Pred.dat m
def rdats : (p : Fin 2) → (c : Dev nD) → RDat τ (Elt F) Unit ℕ (UR sig nD τ) ℕ (cfgs p) c
  | 0 => fun c => (Scores.dat m c).toRRel Scores.fgt (Scores.outR m c)
  | 1 => fun c => (Pred.dat m c).toRRel Pred.fgt (Pred.outR m c)

/-- No thread owes anything at any level. -/
abbrev lev : GSem nD τ sig → Finset Unit := fun _ => ∅
abbrev lv : GSem nD τ sig → Unit → ℕ := fun _ _ => 0

/-- What rides along with the buffers: the generator register and the thread's empty debt. -/
def rest (c : Dev nD) : sProp 𝕄 :=
  iprop((∃ r, prngReg c r) ∗ ∃ W, owes (c : Thread nD τ) (0 : CellTallies nD τ sig Unit) W)

/-- All unscoped buffers at `V`, and the rest. -/
def state (V : Dev nD → Valuation τ sig (Elt F)) (c : Dev nD) : sProp 𝕄 :=
  iprop(StableHlo.held (c : Thread nD τ) (Pipeline.ucRefs τ sig) (V c) ∗ rest c)

/-- Arrays that can hold only `G` hold `G`. -/
theorem arrays_exact (p : Fin 2) (c : Dev nD) (n : ℕ)
    (G : (w : Fin (cfgs p).W) → Buf (Elt F) (((cfgs p).win w).arr.view.loc (c.tc : Thread nD τ)))
    (hs : ∀ w, (rdats m p c).share w = (dats m p c).share w) (h : ∀ w X, (rdats m p c).ArrAt w n X → X = G w) :
    (rdats m p c).arraysAt n ⊢ (dats m p c).arrays G := by
  unfold RDat.arraysAt Dat.arrays
  refine bigSep_mono fun w _ => (show _ ⊢ (_ : sProp 𝕄) from ?_)
  iintro ⟨%X, %hX, H⟩
  rw [hs w, h w X hX]
  iexact H

set_option backward.isDefEq.respectTransparency.types false in
/-- A region that enters with the unscoped buffers at `V` and leaves them at `V'`. -/
def region (p : Fin 2) (kit : Pipeline.LaunchFacts (nD := nD) (τ := τ) cfgs p) (V V' : Dev nD → Valuation τ sig (Elt F))
    (hbody : ∀ c, (rdats m p c).BodyObligation (defs₀ (F := F)) Variants.none () Set.univ)
    (howed : ∀ c t, (rdats m p c).owed t = 0) (hrec : ∀ c, (rdats m p c).recorded 0 = Set.univ)
    (hs : ∀ c w, (rdats m p c).share w = fullShare) (hs' : ∀ c w, (dats m p c).share w = fullShare)
    (hA : ∀ c w, (rdats m p c).A w = V c (Pipeline.arrRef (cfgs p).spec w))
    (hX : ∀ c w X, (rdats m p c).ArrAt w (cfgs p).N X → X = V' c (Pipeline.arrRef (cfgs p).spec w))
    (hV : ∀ c (b : Ref sig .tc), b ∉ Finset.univ.image (Pipeline.arrRef (cfgs p).spec) → V' c b = V c b)
    (hin : ∀ c, Pipeline.ΦA (cfgs p).spec c ⊢ (rdats m p c).Φ 0)
    (hout : ∀ c, (rdats m p c).Φ (Fin.last (cfgs p).N) ⊢ Pipeline.ΦA (cfgs p).spec c) :
    RDat.RegionSeg (pcfgs (F := F)) adm (rdats m) () defs₀ Variants.none lev lv p where
  win := kit.win.to₀
  block_pos := kit.block_pos
  stage_whole := kit.stage_whole
  K := PEmpty
  osem := fun k => k.elim
  ho := Pipeline.OwnSemFacts.none _
  hbody := hbody
  hwaits := RDat.hwaits_of_owed_zero _ _ _ _ lev lv p howed
  pre := state V
  post := state V'
  X := fun c => iprop(∃ r, prngReg c r)
  Y := fun c => iprop(∃ r, prngReg c r)
  Z := fun c => Pipeline.unscopedRest (cfgs p).spec c fun b => V c (Proc.devRef .tc b)
  hentry := fun c => by
    unfold state rest
    rw [← Pipeline.unscopedBufs_held (Ix := Unit) (Name := ℕ) (U := UR sig nD τ) (Lvl := ℕ) c (V c)]
    iintro ⟨⟨Hb, Hg, HO⟩, -, -⟩
    ihave H := (RDat.arrays_of_unscopedBufs (p := p) (pcfgs (F := F)) adm (rdats m) kit.win kit.arr_whole c (hs c)
      (fun b => V c (Proc.devRef .tc b)) (hA c)) $$ Hb
    icases H with ⟨Ha, Hr⟩
    imodintro
    isplitl [Ha]; · iexact Ha
    isplitr
    · unfold Pipeline.prefHeld
      rw [show (Finset.univ : Finset (Fin 0)) = ∅ from rfl, BI.bigSep_empty]
      iempintro
    isplitl [HO]
    · unfold RDat.owesAt Pipeline.owesWithin
      rw [howed c 0]
      icases HO with ⟨%W, HO⟩
      iexists W
      isplitr
      · ipureintro; exact fun x _ => Or.inl (hrec c ▸ Set.mem_univ x)
      iexact HO
    isplitl [Hg]; · iexact Hg
    iexact Hr
  hin := fun c => (show _ ⊢ Pipeline.ΦA (cfgs p).spec c from by
    unfold Pipeline.ΦA
    iintro ⟨Hg, -, Hr⟩
    isplitl [Hr]; · iexact Hr
    iexact Hg).trans (hin c)
  hout := fun c => (hout c).trans (by
    rw [Pipeline.ownSems0_none]
    unfold Pipeline.ΦA
    iintro ⟨Hr, Hg⟩
    isplitl [Hg]; · iexact Hg
    isplitr; · iempintro
    iexact Hr)
  hexit := fun c => by
    unfold state rest
    rw [← Pipeline.unscopedBufs_held (Ix := Unit) (Name := ℕ) (U := UR sig nD τ) (Lvl := ℕ) c (V' c)]
    iintro ⟨Ha, HO, Hg, Hr⟩
    ihave Ha := (arrays_exact m p c (cfgs p).N _ (fun w => (hs c w).trans (hs' c w).symm) (hX c)) $$ Ha
    imodintro
    isplitl [Ha Hr]
    · iapply (Pipeline.unscopedBufs_of_arrays (p := p) (pcfgs (F := F)) adm kit.win kit.arr_whole c (dats m) (hs' c)
        (fun b => V c (Proc.devRef .tc b)) (fun b => V' c (Proc.devRef .tc b)) _ (fun _ => rfl) (hV c))
      isplitl [Ha]; · iexact Ha
      iexact Hr
    isplitl [Hg]; · iexact Hg
    unfold RDat.owesAt Pipeline.owesWithin
    rw [howed c (Fin.last _)]
    icases HO with ⟨%W, -, HO⟩
    iexists W
    iexact HO

/-! ## The two regions -/

/-- What the output arrays can hold at the end. -/
theorem out_0 (c : Dev nD) (X) (h : ((Scores.dat m c).toRRel Scores.fgt (Scores.outR m c)).ArrAt 2 cfg0.N X) : X = Scores.result m c := by
  obtain ⟨Y, hL, hY⟩ := RDat.ArrAt.exists_exact h
  let after : (w : Fin cfg0.W) → Fin cfg0.N → (cfg0.win w).block.Idx → Elt F (cfg0.win w).elt := fun w' =>
    match w' with
    | ⟨2, _⟩ => Y
    | ⟨0, _⟩ => fun _ _ => Classical.arbitrary _
    | ⟨1, _⟩ => fun _ _ => Classical.arbitrary _
  exact (hY after fun _ _ _ => rfl).trans (Scores.final (after := after) m c fun u hf => (Scores.dat m c).toRRel_leaves rfl (hL u u.isLt hf))

theorem out_1 (c : Dev nD) (X) (h : ((Pred.dat m c).toRRel Pred.fgt (Pred.outR m c)).ArrAt 3 cfg1.N X) : X = outV m c := by
  obtain ⟨Y, hL, hY⟩ := RDat.ArrAt.exists_exact h
  let after : (w : Fin cfg1.W) → Fin cfg1.N → (cfg1.win w).block.Idx → Elt F (cfg1.win w).elt := fun w' =>
    match w' with
    | ⟨3, _⟩ => Y
    | ⟨0, _⟩ => fun _ _ => Classical.arbitrary _
    | ⟨1, _⟩ => fun _ _ => Classical.arbitrary _
    | ⟨2, _⟩ => fun _ _ => Classical.arbitrary _
  exact (hY after fun _ _ _ => rfl).trans (Pred.final (after := after) m c fun u hf => (Pred.dat m c).toRRel_leaves rfl (hL u u.isLt hf))

theorem V2_v2 (c : Dev nD) : V2 m (outs m) c main_v2 = Scores.result m c := (Function.update_self _ _ _).trans (Pred.outs_v2 m 2 c)
theorem V4_v4 (c : Dev nD) : V4 m (outs m) c main_v4 = outV m c := (Function.update_self _ _ _).trans (Pred.outs_v4 m 4 c)

theorem arrAt_0 (c : Dev nD) (w : Fin (cfgs 0).W) (X) (h : (rdats m 0 c).ArrAt w (cfgs 0).N X) :
    X = V2 m (outs m) c (Pipeline.arrRef (cfgs 0).spec w) := by
  match w with
  | ⟨0, hw⟩ =>
    exact ((congrFun (RDat.ArrAt_in (rdats m 0 c) ⟨0, hw⟩ rfl (cfgs 0).N) X).mp h).trans (V2_of m (outs m) c main_arg1 (by decide)).symm
  | ⟨1, hw⟩ =>
    exact ((congrFun (RDat.ArrAt_in (rdats m 0 c) ⟨1, hw⟩ rfl (cfgs 0).N) X).mp h).trans (V2_of m (outs m) c main_v1 (by decide)).symm
  | ⟨2, hw⟩ => exact (out_0 m c X h).trans (V2_v2 m c).symm

theorem arrAt_1 (c : Dev nD) (w : Fin (cfgs 1).W) (X) (h : (rdats m 1 c).ArrAt w (cfgs 1).N X) :
    X = V4 m (outs m) c (Pipeline.arrRef (cfgs 1).spec w) := by
  match w with
  | ⟨0, hw⟩ =>
    exact ((congrFun (RDat.ArrAt_in (rdats m 1 c) ⟨0, hw⟩ rfl (cfgs 1).N) X).mp h).trans (V4_of m (outs m) c main_v3 (by decide)).symm
  | ⟨1, hw⟩ =>
    exact ((congrFun (RDat.ArrAt_in (rdats m 1 c) ⟨1, hw⟩ rfl (cfgs 1).N) X).mp h).trans (V4_of m (outs m) c main_arg0 (by decide)).symm
  | ⟨2, hw⟩ =>
    exact ((congrFun (RDat.ArrAt_in (rdats m 1 c) ⟨2, hw⟩ rfl (cfgs 1).N) X).mp h).trans (V4_of m (outs m) c main_v0 (by decide)).symm
  | ⟨3, hw⟩ => exact (out_1 m c X h).trans (V4_v4 m c).symm

set_option backward.isDefEq.respectTransparency.types false in
def region0 : RDat.RegionSeg (pcfgs (F := F)) adm (rdats m) () defs₀ Variants.none lev lv 0 :=
  region m 0 launch0 (V1 m) (V2 m (outs m)) (fun c => (Scores.body_obligation m c).toRRel) (fun _ _ => rfl) (fun _ => rfl)
    (fun c => (Scores.dat m c).share_full fun _ => rfl) (fun c => (Scores.dat m c).share_full fun _ => rfl)
    (fun c w => Scores.A_eq m c w) (arrAt_0 m)
    (fun c b hb => V2_of m (outs m) c b fun h => hb (List.mem_singleton.mp h ▸ Finset.mem_image.mpr ⟨(2 : Fin 3), Finset.mem_univ _, rfl⟩))
    (Scores.hin m) (Scores.hout m)

set_option backward.isDefEq.respectTransparency.types false in
def region1 : RDat.RegionSeg (pcfgs (F := F)) adm (rdats m) () defs₀ Variants.none lev lv 1 :=
  region m 1 launch1 (V3 m (outs m)) (V4 m (outs m)) (fun c => (Pred.body_obligation m c).toRRel) (fun _ _ => rfl) (fun _ => rfl)
    (fun c => (Pred.dat m c).share_full fun _ => rfl) (fun c => (Pred.dat m c).share_full fun _ => rfl)
    (fun c w => Pred.A_eq m c w) (arrAt_1 m)
    (fun c b hb => V4_of m (outs m) c b fun h => hb (List.mem_singleton.mp h ▸ Finset.mem_image.mpr ⟨(3 : Fin 4), Finset.mem_univ _, rfl⟩))
    (Pred.hin m) (Pred.hout m)

/-! ## The run -/

/-- The program's items. -/
abbrev items (_ : Dev nD) : List (RDat.Seg (pcfgs (F := F)) adm (rdats m) () defs₀ Variants.none lev lv) :=
  [.host (seg0 m Variants.none lev lv fun _ => rest), .region (region0 m),
    .host (seg2 m (outs m) Variants.none lev lv fun _ => rest), .region (region1 m)]

set_option backward.isDefEq.respectTransparency.types false in
/-- Every execution ends, with every counter at zero and the unscoped buffers as the last region leaves them. -/
theorem run_main : θ_run defs (onTc (τ := τ) (main (F := F))) ⟨m, fun _ => 0, ρ⟩ fun r =>
    (∀ c : Dev nD, ∀ b ∈ Pipeline.ucRefs τ sig, r.2.mem ((c : Thread nD τ).1, b) = V4 m (outs m) c b) ∧ r.2.sem = fun _ => 0 := by
  refine RDat.θ_run_regions_kit_dev_sems (pcfgs (F := F)) adm (rdats m) () cellOf_inj emb₁ defs₀ Variants.none lev lv m ρ main (items m)
    (fun c Q => by
      rewrite [main_chain c, RDat.Seg.run_eq_chain, show (items m c).map RDat.Seg.prog = [
        StableHlo.seq hostOps0, Prog.lift (.customCall (Pipeline.entry 0) ()),
        StableHlo.seq hostOps1, Prog.lift (.customCall (Pipeline.entry 1) ())] from rfl]
      exact .rfl)
    (fun c => by simp only [items, RDat.Seg.pipes_host, RDat.Seg.pipes_region, RDat.Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := state (V0 m))
    (Tₙ := fun c => StableHlo.held (c : Thread nD τ) (Pipeline.ucRefs τ sig) (V4 m (outs m) c))
    (hch := fun c => ⟨.rfl, .rfl, .rfl, .rfl, ?_⟩)
    (hinit := ?_)
    (QY := fun c s => ∀ b ∈ Pipeline.ucRefs τ sig, s.mem ((c : Thread nD τ).1, b) = V4 m (outs m) c b)
    (hfin := fun c s' => ?_)
    (hQ := fun _ h hz => ⟨h, funext fun g => hz g (.inr (regions_no_unscoped g.2))⟩)
  · iintro Hu
    imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · show state (V4 m (outs m)) c ⊢ (_ : sProp 𝕄)
    unfold state rest
    iintro ⟨Hh, -, HO⟩
    isplitl [Hh]; · iexact Hh
    iexact HO
  · refine Pipeline.initEach lev lv fun c => ?_
    unfold state rest
    rw [← Pipeline.unscopedBufs_held (Ix := Unit) (Name := ℕ) (U := UR sig nD τ) (Lvl := ℕ) c (V0 m c)]
    iintro ⟨⟨Hh, -, HO, -, Hg, -⟩, -⟩
    imodintro
    isplitl [Hh]; · iexact Hh
    isplitl [Hg]
    · iexists _; iexact Hg
    iexists _; iexact HO
  · unfold StableHlo.held
    iintro ⟨Hh, HS⟩
    ihave Hr := (pointsTo_read_all (Pipeline.ucRefs τ sig) (fun b => ((c : Thread nD τ).1, b)) (V4 m (outs m) c) s') $$ [Hh HS]
    · isplitl [Hh] <;> iassumption
    imodintro
    iexact Hr

/-- The run, read: the two results, the arguments and the counters. -/
theorem run : θ_run defs (onTc (τ := τ) (main (F := F))) ⟨m, fun _ => 0, ρ⟩ fun r => (∀ c : Dev nD,
      r.2.mem ((c : Thread nD τ).loc main_v3) = scores m c
      ∧ r.2.mem ((c : Thread nD τ).loc main_v4) = outV m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (θ_run defs _ _).mono (fun r h => ⟨fun c => by
    have hb : ∀ b : Ref sig .tc, ¬(b : DevRef τ sig).isScoped = true → r.2.mem ((c : Thread nD τ).loc b) = V4 m (outs m) c b :=
      fun b hs => h.1 c (Proc.devRef .tc b) (Finset.mem_filter.mpr ⟨StableHlo.devRef_mem_tcRefs b, hs⟩)
    refine ⟨?_, ?_, ?_, ?_⟩
    · exact (hb main_v3 (by decide)).trans ((V4_of m (outs m) c main_v3 (by decide)).trans (Pred.V3_v3 m c))
    · exact (hb main_v4 (by decide)).trans (V4_v4 m c)
    · exact (hb main_arg0 (by decide)).trans (V4_main_arg0 m (outs m) c)
    · exact (hb main_arg1 (by decide)).trans (V4_main_arg1 m (outs m) c), h.2⟩) (run_main m ρ)

/-- The same without the results. -/
theorem frame : θ_run defs (onTc (τ := τ) (main (F := F))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (θ_run defs _ _).mono (fun _ h => ⟨fun c => (h.1 c).2.2, h.2⟩) (run m ρ)

end Cert.KernelIdeal.Run
end
-- ==== Proof.KernelFrame.lean ====
/-
  `Kernel` and `KernelIdeal` are one text: the run of the one, at any float type, is the run of the other.
-/
module

public import proofs.«01_k».proof.Proof.KernelRun
public import proofs.«01_k».proof.Proof.Gen.Kernel

@[expose] public section

noncomputable section

namespace Cert.Kernel.Run

open Cert.Kernel
open Idealize.ShloMosaic Idealize.ShloMosaic.TcCoe Idealize.SL.Sem

variable {F : FTy → Type} [FloatOps F]

theorem scores_same : cc0__phase1_kernel (F := F) = Cert.KernelIdeal.cc0__phase1_kernel (F := F) := rfl
theorem pred_same : cc1__phase2_kernel (F := F) = Cert.KernelIdeal.cc1__phase2_kernel (F := F) := rfl

theorem defs₀_same : defs₀ (F := F) = Cert.KernelIdeal.defs₀ (F := F) := by
  unfold Cert.Kernel.defs₀ Cert.KernelIdeal.defs₀
  refine congrArg Defs.onTc ?_
  funext l x
  match l, x with
  | 0, (t, s) =>
    rw [scores_same]
    rfl
  | 1, (t, s) =>
    rw [pred_same]
    rfl

theorem defs_same : defs (F := F) = Cert.KernelIdeal.defs (F := F) := congrArg (Pipeline.defs pcfgs) defs₀_same

theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)) ∧ r.2.sem = fun _ => 0 := by
  rw [defs_same]
  exact Cert.KernelIdeal.Run.frame m ρ

end Cert.Kernel.Run
end
-- ==== Proof.ScoresValue.lean ====
/-
  At the exact values, the kernel's scores are the reference's. With `part a b = |b|² − 2 b·a` over a bank row `b` and an embedding row
  `a`, the kernel takes the least `part` first and then `√(max(1e-12, |a|² + ·))`, the reference the least of `√(max(1e-12, (|a|² − 2 a·b) + |b|²))`:
  the function under the minimum is monotone, so it may be taken after it. No value need be finite.
-/
module

public import proofs.«01_k».proof.Proof.ScoresRun
public import Idealize.ShloMosaic.Lib.Pointwise
public import Idealize.ShloMosaic.Lib.Pointwise.IndexBridge

@[expose] public section

noncomputable section

namespace Cert.ScoresValue

open Cert.KernelIdeal Cert.KernelIdeal.Gen Cert.KernelIdeal.Scores Cert.Blocks
open Idealize.ShloMosaic

/-! ## Order facts -/

theorem sqrt_mono {x y : EReal} (h : x ≤ y) : Ideal.sqrt x ≤ Ideal.sqrt y := by
  induction x with
  | bot => simp
  | top => rw [top_le_iff.1 h]
  | coe a =>
    induction y with
    | bot => simp at h
    | top => simp
    | coe b =>
      have h' : a ≤ b := EReal.coe_le_coe_iff.1 h
      simp only [Ideal.sqrt_coe]
      split
      · exact bot_le
      · rw [if_neg (by linarith)]
        exact EReal.coe_le_coe_iff.2 (Real.sqrt_le_sqrt h')

/-- A monotone function of the least of finitely many values is the least of its values. -/
theorem fold_min_mono {ι : Type} [Fintype ι] [Nonempty ι] (f : EReal → EReal) (hf : Monotone f) (v : ι → EReal) (m : EReal)
    (hm : ∀ x, x ≤ m ↔ ∀ b, x ≤ v b) : f m = Finset.univ.fold min ⊤ fun b => f (v b) := by
  refine le_antisymm (Finset.le_fold_min _ |>.2 ⟨le_top, fun b _ => hf ((hm m).1 le_rfl b)⟩) ?_
  obtain ⟨b, -, hb⟩ := Finset.exists_min_image (Finset.univ : Finset ι) v Finset.univ_nonempty
  have : v b ≤ m := (hm _).2 fun b' => hb b' (Finset.mem_univ _)
  exact ((Finset.le_fold_min _).1 le_rfl).2 b (Finset.mem_univ _) |>.trans (hf this)

theorem ofBits_inf : Ideal.ofBits .f32 0x7F800000#32 = ⊤ := by simp [Ideal.ofBits, Ideal.ieee]

/-! ## The kernel's values at an index -/

section Kernel

variable (E : Vec Ideal S4096x512 .f32) (M : Vec Ideal S16384x512 .f32)

/-- What bank row `b` contributes for embedding row `a`. -/
def part (a : Fin 4096) (b : Fin 16384) : EReal :=
  (∑ d : Fin 512, M (ix2 b d) * M (ix2 b d)) - Ideal.ofBits .f32 0x40000000#32 * ∑ d : Fin 512, M (ix2 b d) * E (ix2 a d)
/-- The score as a function of the contribution. -/
def score (a : Fin 4096) (v : EReal) : EReal :=
  Ideal.sqrt (max (Ideal.ofBits .f32 0x2B8CBCCC#32) ((∑ d : Fin 512, E (ix2 a d) * E (ix2 a d)) + v))

theorem score_mono (a : Fin 4096) : Monotone (score E a) := fun _ _ h =>
  sqrt_mono (max_le_max_left _ (add_le_add_right h _))

theorem xB_apply (k : ℕ) (i : Fin 2048) (d : Fin 512) : xB M k (ix2 i d) = M (ix2 (xRow k i) d) := by
  simp only [ix2_eq_valueIdx]; rfl
theorem zB_apply (r : ℕ) (d j : Fin 512) : zB E r (ix2 d j) = E (ix2 (zRow r j) d) := by
  simp only [ix2_eq_valueIdx]; rfl

theorem pay2_apply (x : Vec Ideal S2048x512 .f32) (i : Fin 2048) : k0_pay2 x (ix2 i 0) = ∑ d : Fin 512, x (ix2 i d) * x (ix2 i d) := by
  unfold k0_pay2
  pointwise

theorem pay4_apply (x : Vec Ideal S2048x512 .f32) (z : Vec Ideal S512x512 .f32) (y : Vec Ideal S2048x1 .f32) (j : Fin 512) :
    k0_pay4 x z y (ix2 0 j) = Finset.univ.fold min (Ideal.ofBits .f32 0x7F800000#32)
      fun i : Fin 2048 => y (ix2 i 0) - Ideal.ofBits .f32 0x40000000#32 * ∑ d : Fin 512, x (ix2 i d) * z (ix2 d j) := by
  unfold k0_pay4 k0_pay3 k0_pay1
  pointwise

theorem pay5_apply (x : Vec Ideal S2048x512 .f32) (z : Vec Ideal S512x512 .f32) (y : Vec Ideal S2048x1 .f32) (s : Vec Ideal S1x512 .f32) (j : Fin 512) :
    k0_pay5 x z y s (ix2 0 j) = min (k0_pay4 x z y (ix2 0 j)) (s (ix2 0 j)) := by
  unfold k0_pay5 k0_pay4
  pointwise

theorem pay6_apply (z : Vec Ideal S512x512 .f32) (s : Vec Ideal S1x512 .f32) (j : Fin 512) :
    k0_pay6 z s (ix3 0 0 j) = Ideal.sqrt (max (Ideal.ofBits .f32 0x2B8CBCCC#32) ((∑ d : Fin 512, z (ix2 d j) * z (ix2 d j)) + s (ix2 0 j))) := by
  unfold k0_pay6 k0_pay1
  pointwise

theorem block_part (r k : ℕ) (i : Fin 2048) (j : Fin 512) :
    (∑ d : Fin 512, (xB M k (ix2 i d) * xB M k (ix2 i d) : EReal)) - Ideal.ofBits .f32 0x40000000#32 * ∑ d : Fin 512, (xB M k (ix2 i d) * zB E r (ix2 d j) : EReal)
      = part E M (zRow r j) (xRow k i) := by
  unfold part
  refine congrArg₂ (fun u v : EReal => u - Ideal.ofBits .f32 0x40000000#32 * v) ?_ ?_ <;> refine Finset.sum_congr rfl fun d _ => ?_
  · exact congrArg₂ (fun u v : EReal => u * v) (xB_apply M k i d) (xB_apply M k i d)
  · exact congrArg₂ (fun u v : EReal => u * v) (xB_apply M k i d) (zB_apply E r d j)

/-- Below a bank block's minima. -/
theorem le_block (r k : ℕ) (j : Fin 512) (v : EReal) :
    v ≤ k0_pay4 (xB M k) (zB E r) (k0_pay2 (xB M k)) (ix2 0 j) ↔ ∀ i : Fin 2048, v ≤ part E M (zRow r j) (xRow k i) := by
  rw [pay4_apply, Finset.le_fold_min, ofBits_inf]
  simp only [le_top, true_and, Finset.mem_univ, forall_const, pay2_apply]
  refine forall_congr' fun i => ?_
  rw [block_part]

theorem le_chain (r : ℕ) (j : Fin 512) (v : EReal) (k : ℕ) :
    v ≤ chain E M r k (ix2 0 j) ↔ ∀ k' ≤ k, ∀ i : Fin 2048, v ≤ part E M (zRow r j) (xRow k' i) := by
  induction k with
  | zero =>
    show v ≤ (k0_pay4 (F := Ideal) (xB M 0) (zB E r) (k0_pay2 (xB M 0)) (ix2 0 j) : EReal) ↔ _
    rw [le_block]
    exact ⟨fun h k' hk => by rw [Nat.le_zero.1 hk]; exact h, fun h => h 0 le_rfl⟩
  | succ k ih =>
    show v ≤ (k0_pay5 (F := Ideal) (xB M (k + 1)) (zB E r) (k0_pay2 (xB M (k + 1))) (chain E M r k) (ix2 0 j) : EReal) ↔ _
    rw [pay5_apply, le_min_iff, le_block, ih]
    constructor
    · rintro ⟨h1, h2⟩ k' hk
      rcases Nat.le_succ_iff.1 hk with h | h
      · exact h2 k' h
      · rw [h]; exact h1
    · exact fun h => ⟨h (k + 1) le_rfl, fun k' hk => h k' (by omega)⟩

theorem le_chain_last (r : ℕ) (j : Fin 512) (v : EReal) :
    v ≤ chain E M r 7 (ix2 0 j) ↔ ∀ b : Fin 16384, v ≤ part E M (zRow r j) b := by
  rw [le_chain]
  refine ⟨fun h b => ?_, fun h _ _ _ => h _⟩
  have hb := b.isLt
  have e : xRow (b.val / 2048) ⟨b.val % 2048, Nat.mod_lt _ (by decide)⟩ = b := Fin.ext (by
    show 2048 * (b.val / 2048 % 8) + b.val % 2048 = b.val; omega)
  rw [← e]
  exact h _ (by omega) _

/-- The kernel's score of row `j` of row block `r`. -/
theorem kernel_score (r : ℕ) (j : Fin 512) :
    k0_pay6 (zB E r) (chain E M r 7) (ix3 0 0 j)
      = Finset.univ.fold min ⊤ fun b : Fin 16384 => score E (zRow r j) (part E M (zRow r j) b) := by
  rw [pay6_apply, ← fold_min_mono _ (score_mono E (zRow r j)) _ _ (le_chain_last E M r j)]
  refine congrArg (fun u : EReal => Ideal.sqrt (max (Ideal.ofBits .f32 0x2B8CBCCC#32) (u + chain E M r 7 (ix2 0 j)))) ?_
  refine Finset.sum_congr rfl fun d _ => ?_
  exact congrArg₂ (fun u v : EReal => u * v) (zB_apply E r d j) (zB_apply E r d j)

end Kernel

end Cert.ScoresValue
end
-- ==== Proof.ScoresEq.lean ====
/-
  The reference's score at an index, and the two results' equality.
-/
module

public import proofs.«01_k».proof.Proof.ScoresValue
public import proofs.«01_k».proof.Proof.PredRun
public import proofs.«01_k».proof.Proof.Gen.ReferenceIdeal.Run
public import proofs.«01_k».proof.Proof.Gen.ReferenceIdeal.Read

@[expose] public section

noncomputable section

namespace Cert.ScoresValue

open Cert.ReferenceIdeal Cert.ReferenceIdeal.Gen Cert.ReferenceIdeal.Read Cert.Blocks
open Idealize.ShloMosaic

variable (E : Vec Ideal S4096x512 .f32) (M : Vec Ideal S16384x512 .f32)

/-- The distance of embedding row `a` and bank row `b`. -/
theorem ref_dist (a : Fin 4096) (b : Fin 16384) : val_main_v16 (F := Ideal) E M (ix2 a b) = score E a (part E M a b) := by
  unfold val_main_v16 val_main_v15 val_main_call0_v1 val_main_call0_v0 val_main_cst_2 val_main_v14 val_main_v13 val_main_v12 val_main_v11 val_main_v10
    val_main_v9 val_main_v8 val_main_cst_1 val_main_v7 val_main_v6 val_main_v5 val_main_v4 val_main_v3 val_main_v2 val_main_v1 val_main_v0 val_main_cst val_main_cst_0
  unfold score part
  pointwise
  have hdot : ∑ d : Fin 512, M (ix2 b d) * E (ix2 a d) = ∑ d : Fin 512, E (ix2 a d) * M (ix2 b d) := Finset.sum_congr rfl fun d _ => mul_comm _ _
  rw [hdot]
  generalize (∑ d : Fin 512, E (ix2 a d) * E (ix2 a d)) = u
  generalize (∑ d : Fin 512, M (ix2 b d) * M (ix2 b d)) = v
  generalize Ideal.ofBits FTy.f32 0x40000000#32 * (∑ d : Fin 512, E (ix2 a d) * M (ix2 b d)) = w
  refine congrArg (fun x : EReal => Ideal.sqrt (max (Ideal.ofBits .f32 0x2B8CBCCC#32) x)) ?_
  show u + -w + v = u + (v + -w)
  rw [add_assoc, add_comm (-w)]

/-- The reference's score of row `i 1` of row block `i 0`. -/
theorem ref_score (i : S8x512.Idx) :
    val_main_v18 (F := Ideal) E M i
      = Finset.univ.fold min ⊤ fun b : Fin 16384 => score E (zRow (i 0).val (i 1)) (part E M (zRow (i 0).val (i 1)) b) := by
  have h0 : (i 0).val < 8 := (i 0).isLt
  have h1 : (i 1).val < 512 := (i 1).isLt
  rw [val_main_v18_apply]
  unfold val_main_v17
  have e : ∀ h, (⟨(i 0).val * 512 + (i 1).val, h⟩ : Fin 4096) = zRow (i 0).val (i 1) := fun h => Fin.ext (by
    show (i 0).val * 512 + (i 1).val = 512 * ((i 0).val % 8) + (i 1).val; omega)
  have c : (val_main_cst_3 (F := Ideal) (Shape.Idx.first h_S_) : EReal) = ⊤ := ofBits_inf
  pointwise
  rw [c]
  refine congrArg (fun f => Finset.univ.fold min (⊤ : EReal) f) (funext fun b => ?_)
  rw [e, ref_dist]

/-- The kernel's scores are the reference's. -/
theorem result_eq (m : (ℓ : Loc Cert.KernelIdeal.nD Cert.KernelIdeal.τ Cert.KernelIdeal.sig) → Buf (Elt Ideal) ℓ) (c : Dev Cert.KernelIdeal.nD) :
    Cert.KernelIdeal.Pred.scores m c = val_main_v18 (F := Ideal) (Cert.KernelIdeal.Scores.argE m c) (Cert.KernelIdeal.Scores.argM m c) := by
  funext i
  rw [ref_score]
  refine Eq.trans ?_ (kernel_score (Cert.KernelIdeal.Scores.argE m c) (Cert.KernelIdeal.Scores.argM m c) (i 0).val (i 1))
  have e : ∀ h, Shape.reshapeEquiv (s' := S8x512) (s := Cert.KernelIdeal.S8x1x512) h i = ix3 (n0 := 8) (n1 := 1) (n2 := 512) (i 0) 0 (i 1) := fun h =>
    Shape.reshapeEquiv_eq_of_rowMajor h (by
      rw [Shape.rowMajor_val_three, Shape.rowMajor_val_two]
      show ((i 0).val * 1 + 0) * 512 + (i 1).val = (i 0).val * 512 + (i 1).val
      omega)
  unfold Cert.KernelIdeal.Pred.scores
  rw [e]
  show Cert.KernelIdeal.Scores.outV m c (i 0).val (ValueIdx.ix3 (0 : Fin 1) (0 : Fin 1) (i 1)) = Cert.KernelIdeal.Scores.outV m c (i 0).val (ix3 (0 : Fin 1) (0 : Fin 1) (i 1))
  exact congrArg (Cert.KernelIdeal.Scores.outV m c (i 0).val) (ix3_eq_valueIdx (n0 := 1) (n1 := 1) (n2 := 512) 0 0 (i 1)).symm

end Cert.ScoresValue
end
-- ==== Proof.TopK.lean ====
/-
  The first `k` entries of a row in ascending order, equal entries by position: `Least κ σ` says that `σ` lists where they are. A stable sort that
  compares the entries alone puts them first, so `jax.lax.top_k` of the negated row reads their positions.
-/
module

public import Idealize.ShloMosaic.Lib.SortPrefix
public import Idealize.ShloMosaic.Lib.ValueIdx
public import Idealize.ShloMosaic.Lib.Pointwise
public import Idealize.ShloMosaic.PureOps.Ideal.Laws

@[expose] public section

noncomputable section

namespace Cert.TopK

open Idealize.ShloMosaic

/-- `σ` lists the positions of the `k` least entries of `κ`, ascending, equal entries by position. -/
structure Least {n k : ℕ} (κ : Fin n → EReal) (σ : Fin k → Fin n) : Prop where
  inj : Function.Injective σ
  ord : ∀ i j, i < j → κ (σ i) < κ (σ j) ∨ κ (σ i) = κ (σ j) ∧ σ i < σ j
  dom : ∀ i p, (∀ j, σ j ≠ p) → κ (σ i) < κ p ∨ κ (σ i) = κ p ∧ σ i < p

/-- Entries in the same order have their least entries at the same positions. -/
theorem Least.congr {n k : ℕ} {κ κ' : Fin n → EReal} {σ : Fin k → Fin n} (h : Least κ σ) (e : ∀ i j, κ i < κ j ↔ κ' i < κ' j) : Least κ' σ := by
  have q : ∀ i j, κ i = κ j → κ' i = κ' j := fun i j hij =>
    le_antisymm (not_lt.mp fun c => by have := (e j i).mpr c; rw [hij] at this; exact lt_irrefl _ this)
      (not_lt.mp fun c => by have := (e i j).mpr c; rw [hij] at this; exact lt_irrefl _ this)
  exact ⟨h.inj, fun i j l => (h.ord i j l).imp (e _ _).mp fun ⟨a, b⟩ => ⟨q _ _ a, b⟩,
    fun i p l => (h.dom i p l).imp (e _ _).mp fun ⟨a, b⟩ => ⟨q _ _ a, b⟩⟩

/-- A stable sort asks its comparator only of a later element against an earlier one. -/
theorem stableSort_tie {ι : Type} (R R' : ι → ι → Bool) (l : List ι) (h : l.Pairwise fun a b => R b a = R' b a) : stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- The stable sort by the entries alone puts the least entries first. -/
theorem sortedFrom_least {n k : ℕ} (hk : k ≤ n) {κ : Fin n → EReal} {σ : Fin k → Fin n} (h : Least κ σ) (B : Fin n → Fin n → Bool)
    (hB : ∀ a b, B a b = decide (κ a < κ b)) (i : Fin k) : sortedFrom B (i.castLE hk) = σ i := by
  classical
  have hT := StrictTotalBefore.of_key_then_position (fun a b : EReal => decide (a < b)) κ (fun a => by simp)
    (fun a b c h1 h2 => by simp only [decide_eq_true_eq] at *; exact h1.trans h2) (fun a b => by simp only [decide_eq_true_eq]; exact lt_trichotomy a b)
  have e : sortPositions n B = sortPositions n fun k k' : Fin n => decide (κ k < κ k') || (decide (κ k = κ k') && decide (k < k')) :=
    stableSort_tie _ _ _ ((List.pairwise_lt_finRange n).imp fun {a b} (hab : a < b) => by
      rw [hB]; simp only [not_lt.mpr hab.le, decide_false, Bool.and_false, Bool.or_false])
  have q := hT.sortedFrom_eq_of_prefix hk σ h.inj (fun i j hij => by
      simp only [Bool.or_eq_false_iff, Bool.and_eq_false_iff, decide_eq_false_iff_not]
      rcases h.ord i j hij with c | ⟨c, l⟩
      · exact ⟨not_lt.mpr c.le, Or.inl c.ne'⟩
      · exact ⟨not_lt.mpr c.le, Or.inr (not_lt.mpr l.le)⟩)
    (fun i p hp => by
      simp only [Bool.or_eq_false_iff, Bool.and_eq_false_iff, decide_eq_false_iff_not]
      rcases h.dom i p hp with c | ⟨c, l⟩
      · exact ⟨not_lt.mpr c.le, Or.inl c.ne'⟩
      · exact ⟨not_lt.mpr c.le, Or.inr (not_lt.mpr l.le)⟩) i
  rw [← q]
  unfold sortedFrom
  simp only [List.get_eq_getElem, Fin.val_cast]
  congr 1

theorem along_ix2 {R C : ℕ} (b : Fin R) (j k : Fin C) : Shape.Idx.along (s := ⟨2, ![R, C]⟩) (Idealize.ShloMosaic.ix2 b j) 1 k = Idealize.ShloMosaic.ix2 b k := by
  funext a
  unfold Shape.Idx.along
  fin_cases a
  · exact Function.update_of_ne (show (0 : Fin 2) ≠ 1 by decide) _ _
  · exact Function.update_self _ _ _

/-- `jax.lax.top_k` along a row reads the positions of the least entries of the negated row. -/
theorem topK_positions {R C K : ℕ} (x : (⟨2, ![R, C]⟩ : Shape).Idx → EReal) (hs : (⟨2, ![R, C]⟩ : Shape).Slices (fun _ => 0) ⟨2, ![R, K]⟩)
    (hk : K ≤ C) (b : Fin R) {σ : Fin K → Fin C} (h : Least (fun j => - x (Idealize.ShloMosaic.ix2 b j)) σ) (r : Fin K) :
    (Host.topK (s := ⟨2, ![R, C]⟩) ⟨2, ![R, K]⟩ 1 (FloatOps.cmpfTotal (F := Ideal) (φ := .f32) .gt) x hs).2 (Idealize.ShloMosaic.ix2 b r)
      = BitVec.ofNat 32 (σ r).val := by
  have q := sortedFrom_least hk h
    (fun k k' => FloatOps.cmpfTotal (F := Ideal) (φ := .f32) .gt (x (Idealize.ShloMosaic.ix2 b k)) (x (Idealize.ShloMosaic.ix2 b k')) == 1#1) (fun a c => by
      show (BitVec.ofBool (decide (x (Idealize.ShloMosaic.ix2 b c) < x (Idealize.ShloMosaic.ix2 b a))) == 1#1) = _
      by_cases e : x (Idealize.ShloMosaic.ix2 b c) < x (Idealize.ShloMosaic.ix2 b a) <;> simp [e, EReal.neg_lt_neg_iff]) r
  have hJ : ∀ y : (⟨2, ![R, C]⟩ : Shape).Idx → BitVec 32, extractStridedSlice ⟨2, ![R, K]⟩ (fun _ => 0) y hs (Idealize.ShloMosaic.ix2 b r)
      = y (Idealize.ShloMosaic.ix2 b (r.castLE hk)) := fun y => congrArg y (by
    funext a
    fin_cases a <;> exact Fin.ext (Nat.zero_add _))
  rw [← q]
  unfold Host.topK
  dsimp only
  refine (hJ _).trans ?_
  unfold Host.sort2
  have h1 : 1 < (⟨2, ![R, C]⟩ : Shape).rank := Nat.one_lt_two
  simp only [h1, dif_pos]
  refine (congrArg (fun i : (⟨2, ![R, C]⟩ : Shape).Idx => BitVec.ofNat 32 (i 1).val) (along_ix2 b (r.castLE hk) (sortedFrom _ (r.castLE hk)))).trans ?_
  refine congrArg (fun B : Fin C → Fin C → Bool => BitVec.ofNat 32 (sortedFrom B (r.castLE hk)).val) ?_
  funext k k'
  exact congrArg₂ (fun u v => FloatOps.cmpfTotal (F := Ideal) (φ := .f32) .gt (x u) (x v) == 1#1) (along_ix2 b _ k) (along_ix2 b _ k')

end Cert.TopK

end
-- ==== Proof.Picks.lean ====
/-
  Picking the least entry of a row again and again, each time the first of the equal ones, and striking it out: the picks list the least entries.
-/
module

public import proofs.«01_k».proof.Proof.TopK

@[expose] public section

noncomputable section

namespace Cert.Picks

open Idealize.ShloMosaic Cert.TopK

variable {n : ℕ}

/-- `p` is the first position of the row's least entry. -/
def First (κ : Fin n → EReal) (p : Fin n) : Prop := ∀ j, κ p < κ j ∨ κ p = κ j ∧ p ≤ j

theorem First.le {κ : Fin n → EReal} {p : Fin n} (h : First κ p) (j : Fin n) : κ p ≤ κ j := (h j).elim le_of_lt fun e => e.1.le

theorem First.unique {κ : Fin n → EReal} {p q : Fin n} (h : First κ p) (h' : First κ q) : p = q := by
  have e : κ p = κ q := le_antisymm (h.le q) (h'.le p)
  refine le_antisymm ?_ ?_
  · rcases h q with c | c
    · exact absurd e c.ne
    · exact c.2
  · rcases h' p with c | c
    · exact absurd e c.ne'
    · exact c.2

theorem exists_first [NeZero n] (κ : Fin n → EReal) : ∃ p, First κ p := by
  classical
  obtain ⟨p, -, hp⟩ := Finset.exists_min_image Finset.univ κ ⟨(0 : Fin n), Finset.mem_univ _⟩
  have hne : (Finset.univ.filter fun j => κ j = κ p).Nonempty := ⟨p, by simp⟩
  refine ⟨(Finset.univ.filter fun j => κ j = κ p).min' hne, fun j => ?_⟩
  have e : κ ((Finset.univ.filter fun j => κ j = κ p).min' hne) = κ p := (Finset.mem_filter.mp (Finset.min'_mem _ hne)).2
  rcases (hp j (Finset.mem_univ j)).lt_or_eq with c | c
  · exact Or.inl (e.trans_lt c)
  · exact Or.inr ⟨e.trans c, Finset.min'_le _ _ (by simp [c])⟩

/-- The first position of the row's least entry. -/
def pick [NeZero n] (κ : Fin n → EReal) : Fin n := (exists_first κ).choose
theorem first_pick [NeZero n] (κ : Fin n → EReal) : First κ (pick κ) := (exists_first κ).choose_spec

/-- One position is the least entry's. -/
theorem First.least {κ : Fin n → EReal} {p : Fin n} (h : First κ p) : Least κ (fun _ : Fin 1 => p) :=
  ⟨fun a b _ => Subsingleton.elim a b, fun i j l => absurd l (by rw [Subsingleton.elim i j]; exact lt_irrefl _), fun _ q hq =>
    (h q).imp id fun e => ⟨e.1, lt_of_le_of_ne e.2 (hq 0)⟩⟩

/-- The row after `r` rounds. -/
def struck [NeZero n] (κ : Fin n → EReal) : ℕ → Fin n → EReal
  | 0 => κ
  | r + 1 => Function.update (struck κ r) (pick (struck κ r)) ⊤

theorem struck_apply [NeZero n] (κ : Fin n → EReal) (r : ℕ) (j : Fin n) :
    struck κ r j = κ j ∧ (∀ i, i < r → pick (struck κ i) ≠ j) ∨ struck κ r j = ⊤ ∧ ∃ i, i < r ∧ pick (struck κ i) = j := by
  induction r with
  | zero => exact Or.inl ⟨rfl, fun i h => absurd h (Nat.not_lt_zero i)⟩
  | succ r ih =>
    by_cases e : pick (struck κ r) = j
    · exact Or.inr ⟨by rw [← e]; exact Function.update_self _ _ _, r, Nat.lt_succ_self r, e⟩
    · have q : struck κ (r + 1) j = struck κ r j := Function.update_of_ne (Ne.symm e) _ _
      rcases ih with ⟨a, b⟩ | ⟨a, i, hi, b⟩
      · refine Or.inl ⟨q.trans a, fun i hi => ?_⟩
        rcases Nat.lt_succ_iff_lt_or_eq.mp hi with c | c
        · exact b i c
        · exact c ▸ e
      · exact Or.inr ⟨q.trans a, i, hi.trans (Nat.lt_succ_self r), b⟩

/-- A pick was not picked before. -/
theorem pick_new [NeZero n] {κ : Fin n → EReal} (hfin : ∀ j, κ j < ⊤) {r : ℕ} (hr : r < n) (i : ℕ) (hi : i < r) :
    pick (struck κ i) ≠ pick (struck κ r) := by
  classical
  intro e
  obtain ⟨j, hj⟩ : ∃ j, ∀ i, i < r → pick (struck κ i) ≠ j := by
    by_contra hc
    push Not at hc
    have hs : (Finset.univ : Finset (Fin n)) ⊆ (Finset.range r).image fun i => pick (struck κ i) := fun j _ => by
      obtain ⟨i, hi, e⟩ := hc j
      exact Finset.mem_image.mpr ⟨i, Finset.mem_range.mpr hi, e⟩
    have := (Finset.card_le_card hs).trans Finset.card_image_le
    rw [Finset.card_univ, Fintype.card_fin, Finset.card_range] at this
    omega
  have h1 : struck κ r j = κ j := by
    rcases struck_apply κ r j with c | ⟨_, i, hi, c⟩
    · exact c.1
    · exact absurd c (hj i hi)
  have h2 : struck κ r (pick (struck κ r)) = ⊤ := by
    rcases struck_apply κ r (pick (struck κ r)) with c | c
    · exact absurd e (c.2 i hi)
    · exact c.1
  have h3 := (first_pick (struck κ r)).le j
  rw [h1, h2] at h3
  exact absurd (hfin j) (not_lt.mpr h3)

/-- The first `k` picks list the least `k` entries. -/
theorem least_picks [NeZero n] {κ : Fin n → EReal} (hfin : ∀ j, κ j < ⊤) {k : ℕ} (hk : k ≤ n) :
    Least κ (fun r : Fin k => pick (struck κ r.val)) := by
  have keep : ∀ (r : ℕ) (j : Fin n), (∀ i, i < r → pick (struck κ i) ≠ j) → struck κ r j = κ j := fun r j h => by
    rcases struck_apply κ r j with c | ⟨_, i, hi, c⟩
    · exact c.1
    · exact absurd c (h i hi)
  have step : ∀ (r : Fin k) (p : Fin n), (∀ i, i < r.val → pick (struck κ i) ≠ p) → pick (struck κ r.val) ≠ p →
      κ (pick (struck κ r.val)) < κ p ∨ κ (pick (struck κ r.val)) = κ p ∧ pick (struck κ r.val) < p := fun r p h hne => by
    have := first_pick (struck κ r.val) p
    rw [keep r.val p h, keep r.val (pick (struck κ r.val)) fun i hi => pick_new hfin (r.isLt.trans_le hk) i hi] at this
    exact this.imp id fun e => ⟨e.1, lt_of_le_of_ne e.2 hne⟩
  refine ⟨fun a b e => ?_, fun i j l => ?_, fun i p hp => ?_⟩
  · rcases lt_trichotomy a b with c | c | c
    · exact absurd e (pick_new hfin (b.isLt.trans_le hk) a.val c)
    · exact c
    · exact absurd e.symm (pick_new hfin (a.isLt.trans_le hk) b.val c)
  · exact step i _ (fun l' hl' => pick_new hfin (j.isLt.trans_le hk) l' (hl'.trans l)) (pick_new hfin (j.isLt.trans_le hk) i.val l)
  · exact step i p (fun l hl => hp ⟨l, hl.trans i.isLt⟩) (hp i)

/-- The least of the row, by a fold. -/
theorem fold_min {κ : Fin n → EReal} {p : Fin n} (h : First κ p) : Finset.fold min (⊤ : EReal) κ Finset.univ = κ p :=
  le_antisymm ((Finset.fold_min_le _).mpr (Or.inr ⟨p, Finset.mem_univ p, le_refl _⟩)) ((Finset.le_fold_min _).mpr ⟨le_top, fun j _ => h.le j⟩)

/-- The greatest of the row, by a fold. -/
theorem fold_max {κ : Fin n → EReal} {p : Fin n} (h : First (fun j => - κ j) p) : Finset.fold max (⊥ : EReal) κ Finset.univ = κ p :=
  le_antisymm ((Finset.fold_max_le _).mpr ⟨bot_le, fun j _ => EReal.neg_le_neg_iff.mp (h.le j)⟩) ((Finset.le_fold_max _).mpr (Or.inr ⟨p, Finset.mem_univ p, le_refl _⟩))

/-- The least of the positions with a property, by a fold of the words in which the others hold a greater number. -/
theorem fold_minsi (P : Fin n → Prop) [DecidablePred P] (N : ℕ) (hN : n ≤ N) (h31 : N < 2 ^ 31) (p : Fin n) (hp : P p) (hl : ∀ j, P j → p ≤ j) :
    Finset.fold IntOp.minsi 2147483647#32 (fun x => if P x then BitVec.ofNat 32 x.val else BitVec.ofNat 32 N) Finset.univ = BitVec.ofNat 32 p.val := by
  have tn : ∀ a, a < 2 ^ 31 → (BitVec.ofNat 32 a).toInt = a := fun a ha => by
    rw [BitVec.toInt_eq_toNat_cond, BitVec.toNat_ofNat, Nat.mod_eq_of_lt (by omega), if_pos (by omega)]
  have hp' := p.isLt
  apply BitVec.eq_of_toInt_eq
  rw [← Finset.fold_hom (op' := (min : ℤ → ℤ → ℤ)) (m := BitVec.toInt) (fun a b => by
    unfold IntOp.minsi; rw [BitVec.slt_eq_decide]; by_cases e : a.toInt < b.toInt <;> simp [e] <;> omega), tn p.val (by omega)]
  refine le_antisymm ((Finset.fold_min_le _).mpr (Or.inr ⟨p, Finset.mem_univ p, ?_⟩)) ((Finset.le_fold_min _).mpr ⟨?_, fun j _ => ?_⟩)
  · rw [if_pos hp, tn _ (by omega)]
  · have : (2147483647#32).toInt = 2147483647 := by decide
    omega
  · by_cases e : P j
    · have := hl j e; have := j.isLt; rw [if_pos e, tn _ (by omega)]; exact_mod_cast hl j e
    · rw [if_neg e, tn _ h31]; omega

end Cert.Picks

end
-- ==== Proof.PredValue.lean ====
/-
  The prediction kernel's values at an index, over the extended reals.
-/
module

public import proofs.«01_k».proof.Proof.PredRun
public import proofs.«01_k».proof.Proof.ScoresValue
public import proofs.«01_k».proof.Proof.Picks
public import Idealize.ShloMosaic.Lib.Pointwise
public import Idealize.ShloMosaic.Lib.Pointwise.IndexBridge

@[expose] public section

noncomputable section

namespace Cert.PredValue

open Cert.KernelIdeal Cert.KernelIdeal.Gen Cert.KernelIdeal.Pred Cert.Blocks Cert.Picks Cert.TopK
open Idealize.ShloMosaic

theorem ofBits_negInf : Ideal.ofBits .f32 0xFF800000#32 = ⊥ := by simp [Ideal.ofBits, Ideal.ieee]

theorem cmpi_eq_word (a b : ℕ) (ha : a < 2 ^ 32) (hb : b < 2 ^ 32) :
    IntOp.cmpi .eq (BitVec.ofNat 32 a) (BitVec.ofNat 32 b) = if a = b then 1#1 else 0#1 := by
  unfold IntOp.cmpi
  by_cases e : a = b
  · simp [e]
  · have : BitVec.ofNat 32 a ≠ BitVec.ofNat 32 b := fun c => e (by
      have := congrArg BitVec.toNat c
      rwa [BitVec.toNat_ofNat, BitVec.toNat_ofNat, Nat.mod_eq_of_lt ha, Nat.mod_eq_of_lt hb] at this)
    rw [if_neg e]
    show BitVec.ofBool (_ == _) = _
    rw [beq_eq_false_iff_ne.mpr this]; rfl

/-- Row `b` of an array of eight rows. -/
def row (κ : Vec Ideal S8x16384 .f32) (b : Fin 8) : Fin 16384 → EReal := fun j => κ (Idealize.ShloMosaic.ix2 b j)

/-- The word of the first least entry's position. -/
theorem fold_word (K : Fin 16384 → EReal) :
    Finset.fold IntOp.minsi 2147483647#32 (fun x : Fin 16384 => if K x ≤ Finset.fold min (Ideal.ofBits .f32 2139095040#32) (fun x => K x) Finset.univ
      then BitVec.ofNat 32 x.val else 16384#32) Finset.univ = BitVec.ofNat 32 (pick K).val := by
  have e : Finset.fold min (Ideal.ofBits .f32 2139095040#32) (fun x => K x) Finset.univ = K (pick K) := by
    rw [show Ideal.ofBits .f32 2139095040#32 = ⊤ from ScoresValue.ofBits_inf]
    exact fold_min (first_pick K)
  rw [e]
  exact fold_minsi (fun x => K x ≤ K (pick K)) 16384 le_rfl (by norm_num) (pick K) le_rfl fun j hj =>
    (first_pick K j).elim (fun c => absurd hj (not_le.mpr c)) fun c => c.2

theorem pay13_apply (κ : Vec Ideal S8x16384 .f32) (b : Fin 8) (j : Fin 16384) :
    k1_pay13 κ (Idealize.ShloMosaic.ix2 b j) = if j = pick (row κ b) then 1#1 else 0#1 := by
  unfold k1_pay13
  pointwise
  refine (congrArg (IntOp.cmpi .eq (BitVec.ofNat 32 j.val)) (fold_word (row κ b))).trans ?_
  rw [cmpi_eq_word _ _ (by omega) (by omega)]
  simp only [Fin.ext_iff]

theorem pay14_apply (κ d : Vec Ideal S8x16384 .f32) (b : Fin 8) : k1_pay14 κ d (Idealize.ShloMosaic.ix1 b) = row d b (pick (row κ b)) := by
  unfold k1_pay14
  pointwise
  simp only [pay13_apply]
  rw [Finset.sum_eq_single (pick (row κ b))]
  · simp [Scalar.select, row]
  · intro j _ h; simp [Scalar.select, h]
  · intro h; exact absurd (Finset.mem_univ _) h

theorem pay14_row (κ : Vec Ideal S8x16384 .f32) (b : Fin 8) : row (k1_pay15 κ) b = Function.update (row κ b) (pick (row κ b)) ⊤ := by
  funext j
  show k1_pay15 κ (Idealize.ShloMosaic.ix2 b j) = _
  unfold k1_pay15
  pointwise
  rw [pay13_apply, show Ideal.ofBits .f32 2139095040#32 = ⊤ from ScoresValue.ofBits_inf]
  by_cases e : j = pick (row κ b)
  · rw [if_pos e, e, Function.update_self]; rfl
  · rw [if_neg e, Function.update_of_ne e]; rfl

/-- A round strikes out the pick. -/
theorem struck_row {κ κ' : Vec Ideal S8x16384 .f32} {b : Fin 8} {r : ℕ} (h : row κ' b = struck (row κ b) r) : row (k1_pay15 κ') b = struck (row κ b) (r + 1) := by
  rw [pay14_row, h]; rfl

/-- Where the entries of a row are at most the row's least. -/
def leastMask (κ : Vec Ideal S8x16384 .f32) : IVec S8x16384 1 :=
  cmpf (F := Ideal) (φ := .f32) .ole κ (broadcastTo S8x16384 (shapeCast S8x1 (multiReduction (F := Ideal) (φ := .f32) .minimumf [1] S8 κ 0x7F800000#32 reduces_S8x16384_S8 (.inl rfl) rfl) shapeCasts_S8_S8x1)
    broadcasts_S8x1_S8x16384)

/-- The softmax weight the first of nine squared distances leaves, times the score. -/
def softOf (D : Fin 9 → EReal) (s : EReal) : EReal :=
  (1 - Ideal.div (Ideal.exp (Ideal.sqrt (D 0) - Finset.fold max (⊥ : EReal) (fun x => Ideal.sqrt (D x)) Finset.univ))
    (∑ x, Ideal.exp (Ideal.sqrt (D x) - Finset.fold max (⊥ : EReal) (fun x => Ideal.sqrt (D x)) Finset.univ))) * s

theorem pay12_apply (d : Vec Ideal S8x16384 .f32) (d0 d1 d2 d3 d4 d5 d6 d7 : FVec Ideal S8 .f32) (κ : Vec Ideal S8x16384 .f32) (s : Vec Ideal S8x1 .f32) (b : Fin 8)
    (D : Fin 9 → EReal) (h0 : d0 (Idealize.ShloMosaic.ix1 b) = D 0) (h1 : d1 (Idealize.ShloMosaic.ix1 b) = D 1) (h2 : d2 (Idealize.ShloMosaic.ix1 b) = D 2)
    (h3 : d3 (Idealize.ShloMosaic.ix1 b) = D 3) (h4 : d4 (Idealize.ShloMosaic.ix1 b) = D 4) (h5 : d5 (Idealize.ShloMosaic.ix1 b) = D 5)
    (h6 : d6 (Idealize.ShloMosaic.ix1 b) = D 6) (h7 : d7 (Idealize.ShloMosaic.ix1 b) = D 7) (h8 : row d b (pick (row κ b)) = D 8) :
    k1_pay12 d (iota .tc S8x16384 32 [1] iota_S8x16384_d1_w32) d0 d1 d2 d3 d4 d5 d6 d7 (leastMask κ) s (Idealize.ShloMosaic.ix2 b 0)
      = softOf D (s (Idealize.ShloMosaic.ix2 b 0)) := by
  have h8' : k1_pay14 κ d (Idealize.ShloMosaic.ix1 b) = D 8 := (pay14_apply κ d b).trans h8
  unfold k1_pay14 k1_pay13 at h8'
  unfold k1_pay12 leastMask
  pointwise at h8' ⊢
  rw [h8', h0, h1, h2, h3, h4, h5, h6, h7]
  have e : (fun x : Fin 9 => if h : x.val < 1 then D 0 else if h : x.val - 1 < 1 then D 1 else if h : x.val - 1 - 1 < 1 then D 2
      else if h : x.val - 1 - 1 - 1 < 1 then D 3 else if h : x.val - 1 - 1 - 1 - 1 < 1 then D 4 else if h : x.val - 1 - 1 - 1 - 1 - 1 < 1 then D 5
      else if h : x.val - 1 - 1 - 1 - 1 - 1 - 1 < 1 then D 6 else if h : x.val - 1 - 1 - 1 - 1 - 1 - 1 - 1 < 1 then D 7 else D 8) = D := by
    funext x; fin_cases x <;> rfl
  rw [show Ideal.ofBits .f32 4286578688#32 = ⊥ from ofBits_negInf]
  exact congrArg (fun D' : Fin 9 → EReal => (1 - Ideal.div (Ideal.exp (Ideal.sqrt (D 0) - Finset.fold max (⊥ : EReal) (fun x => Ideal.sqrt (D' x)) Finset.univ))
    (∑ x, Ideal.exp (Ideal.sqrt (D' x) - Finset.fold max (⊥ : EReal) (fun x => Ideal.sqrt (D' x)) Finset.univ))) * s (Idealize.ShloMosaic.ix2 b 0)) e

theorem predOf_apply (κ d : Vec Ideal S8x16384 .f32) (s : Vec Ideal S8x1 .f32) (b : Fin 8) :
    predOf κ d s (Idealize.ShloMosaic.ix2 b 0) = softOf (fun r => row d b (pick (struck (row κ b) r.val))) (s (Idealize.ShloMosaic.ix2 b 0)) := by
  have s0 : row κ b = struck (row κ b) 0 := rfl
  have s1 := struck_row s0
  have s2 := struck_row s1
  have s3 := struck_row s2
  have s4 := struck_row s3
  have s5 := struck_row s4
  have s6 := struck_row s5
  have s7 := struck_row s6
  have s8 := struck_row s7
  have q : ∀ (r : Fin 9) (κ' : Vec Ideal S8x16384 .f32), row κ' b = struck (row κ b) r.val →
      row d b (pick (row κ' b)) = row d b (pick (struck (row κ b) r.val)) := fun r κ' h => by rw [h]
  exact pay12_apply d _ _ _ _ _ _ _ _ (k1_pay15 (k1_pay15 (k1_pay15 (k1_pay15 (k1_pay15 (k1_pay15 (k1_pay15 (k1_pay15 κ)))))))) s b
    (fun r => row d b (pick (struck (row κ b) r.val))) (pay14_apply _ d b) ((pay14_apply _ d b).trans (q 1 _ s1)) ((pay14_apply _ d b).trans (q 2 _ s2))
    ((pay14_apply _ d b).trans (q 3 _ s3)) ((pay14_apply _ d b).trans (q 4 _ s4)) ((pay14_apply _ d b).trans (q 5 _ s5))
    ((pay14_apply _ d b).trans (q 6 _ s6)) ((pay14_apply _ d b).trans (q 7 _ s7)) (q 8 _ s8)

/-! ## One-hot gathers -/

/-- A compare's bit as a float. -/
def hot (c : BitVec 1) : EReal := FloatOps.sitofp (F := Ideal) .f32 (BitVec.setWidth 32 c)

theorem hot_one : hot 1#1 = 1 := by
  show (((BitVec.setWidth 32 1#1).toInt : ℝ) : EReal) = 1
  rw [show (BitVec.setWidth 32 1#1).toInt = 1 by decide]; norm_num
theorem hot_zero : hot 0#1 = 0 := by
  show (((BitVec.setWidth 32 0#1).toInt : ℝ) : EReal) = 0
  rw [show (BitVec.setWidth 32 0#1).toInt = 0 by decide]; norm_num

section Chain

variable (S : Vec Ideal S8x512 .f32) (E : Vec Ideal S4096x512 .f32) (M : Vec Ideal S16384x512 .f32)

/-- The first position of the maximal score. -/
def mp (b : Fin 8) : Fin 512 := pick fun x => - S (Idealize.ShloMosaic.ix2 b x)
/-- Its row of the embedding. -/
def gid (b : Fin 8) : Fin 4096 := ⟨b.val * 512 + (mp S b).val, by have := b.isLt; have := (mp S b).isLt; omega⟩
/-- The squared length of a row. -/
def sqlen {n : ℕ} (X : (⟨2, ![n, 512]⟩ : Shape).Idx → EReal) (j : Fin n) : EReal := ∑ x : Fin 512, X (Idealize.ShloMosaic.ix2 j x) * X (Idealize.ShloMosaic.ix2 j x)
/-- Two rows' inner product. -/
def dotp {n k : ℕ} (X : (⟨2, ![n, 512]⟩ : Shape).Idx → EReal) (Y : (⟨2, ![k, 512]⟩ : Shape).Idx → EReal) (i : Fin n) (j : Fin k) : EReal :=
  ∑ x : Fin 512, X (Idealize.ShloMosaic.ix2 i x) * Y (Idealize.ShloMosaic.ix2 j x)
/-- The clipped squared distances of the row of the maximal score to the bank's. -/
def distRow (b : Fin 8) (j : Fin 16384) : EReal :=
  max (Ideal.ofBits .f32 730643660#32) ((sqlen E (gid S b) + sqlen M j) - Ideal.ofBits .f32 1073741824#32 * dotp E M (gid S b) j)
/-- The nearest row of the bank. -/
def near (b : Fin 8) : Fin 16384 := pick (distRow S E M b)
/-- The sort keys: the squared distances to the nearest row, but for its squared length. -/
def keyRow (b : Fin 8) (j : Fin 16384) : EReal := sqlen M j - Ideal.ofBits .f32 1073741824#32 * dotp M M (near S E M b) j

theorem pay1_eq : k1_pay1 S = S := by
  funext i
  exact (shapeCast_apply S _ i i rfl)

theorem fSC_apply (b : Fin 8) : fSC S (Idealize.ShloMosaic.ix2 b 0) = S (Idealize.ShloMosaic.ix2 b (mp S b)) := by
  unfold fSC k1_pay3 k1_pay2
  simp only [pay1_eq]
  pointwise
  rw [show Ideal.ofBits .f32 4286578688#32 = ⊥ from ofBits_negInf]
  exact fold_max (κ := fun x => S (Idealize.ShloMosaic.ix2 b x)) (first_pick _)

theorem fold_word_max (b : Fin 8) :
    Finset.fold IntOp.minsi 2147483647#32 (fun x : Fin 512 => if Finset.fold max (Ideal.ofBits .f32 4286578688#32) (fun x => S (Idealize.ShloMosaic.ix2 b x)) Finset.univ
      ≤ S (Idealize.ShloMosaic.ix2 b x) then BitVec.ofNat 32 x.val else 512#32) Finset.univ = BitVec.ofNat 32 (mp S b).val := by
  have hf := first_pick fun x => - S (Idealize.ShloMosaic.ix2 b x)
  have e : Finset.fold max (Ideal.ofBits .f32 4286578688#32) (fun x => S (Idealize.ShloMosaic.ix2 b x)) Finset.univ = S (Idealize.ShloMosaic.ix2 b (mp S b)) := by
    rw [show Ideal.ofBits .f32 4286578688#32 = ⊥ from ofBits_negInf]
    exact fold_max hf
  rw [e]
  exact fold_minsi (fun x => S (Idealize.ShloMosaic.ix2 b (mp S b)) ≤ S (Idealize.ShloMosaic.ix2 b x)) 512 le_rfl (by norm_num) (mp S b) le_rfl fun j hj =>
    (hf j).elim (fun c => absurd hj (not_le.mpr (EReal.neg_lt_neg_iff.mp c))) fun c => c.2

theorem fMF_apply (b : Fin 8) (j : Fin 512) : fMF S E (Idealize.ShloMosaic.ix2 b j) = E (Idealize.ShloMosaic.ix2 (gid S b) j) := by
  have hw : ∀ x : Fin 4096, IntOp.cmpi .eq (BitVec.ofNat 32 x.val) (IntOp.addi (IntOp.muli (BitVec.ofNat 32 b.val) 512#32) (BitVec.ofNat 32 (mp S b).val))
      = if x = gid S b then 1#1 else 0#1 := fun x => by
    have := b.isLt; have := (mp S b).isLt
    have e : IntOp.addi (IntOp.muli (BitVec.ofNat 32 b.val) 512#32) (BitVec.ofNat 32 (mp S b).val) = BitVec.ofNat 32 (gid S b).val := by
      unfold IntOp.addi IntOp.muli gid
      apply BitVec.eq_of_toNat_eq
      simp only [BitVec.toNat_add, BitVec.toNat_mul, BitVec.toNat_ofNat]
      omega
    rw [e, cmpi_eq_word _ _ (by have := x.isLt; omega) (by have := (gid S b).isLt; omega)]
    simp only [Fin.ext_iff]
  unfold fMF k1_pay4 k1_pay2
  simp only [pay1_eq]
  pointwise
  rw [fold_word_max]
  refine (Finset.sum_congr rfl fun x _ => congrArg (fun c => hot c * E (Idealize.ShloMosaic.ix2 x j)) (hw x)).trans ?_
  rw [Finset.sum_eq_single (gid S b)]
  · rw [if_pos rfl, hot_one, one_mul]
  · intro x _ h; rw [if_neg h, hot_zero, zero_mul]
  · intro h; exact absurd (Finset.mem_univ _) h

theorem cols_apply (f : ℕ → Vec Ideal S8x2048 .f32) (b : Fin 8) (j : Fin 16384) :
    cols f (Idealize.ShloMosaic.ix2 b j) = f (j.val / 2048) (Idealize.ShloMosaic.ix2 b ⟨j.val % 2048, Nat.mod_lt _ (by decide)⟩) := rfl

theorem yB_apply (j : Fin 16384) (d : Fin 512) :
    yB M (j.val / 2048) (Idealize.ShloMosaic.ix2 d ⟨j.val % 2048, Nat.mod_lt _ (by decide)⟩) = M (Idealize.ShloMosaic.ix2 j d) := by
  have e : xRow (j.val / 2048) ⟨j.val % 2048, Nat.mod_lt _ (by decide)⟩ = j := Fin.ext (by
    show 2048 * (j.val / 2048 % 8) + j.val % 2048 = j.val
    have := j.isLt; omega)
  show M (Idealize.ShloMosaic.ix2 (xRow (j.val / 2048) ⟨j.val % 2048, Nat.mod_lt _ (by decide)⟩) d) = _
  rw [e]

theorem pay5_apply (κ : Vec Ideal S512x2048 .f32) (X : Vec Ideal S8x512 .f32) (b : Fin 8) (j : Fin 2048) :
    k1_pay5 κ X (Idealize.ShloMosaic.ix2 b j) = max (Ideal.ofBits .f32 730643660#32)
      ((∑ x : Fin 512, X (Idealize.ShloMosaic.ix2 b x) * X (Idealize.ShloMosaic.ix2 b x) + ∑ x : Fin 512, κ (Idealize.ShloMosaic.ix2 x j) * κ (Idealize.ShloMosaic.ix2 x j))
        - Ideal.ofBits .f32 1073741824#32 * ∑ x : Fin 512, X (Idealize.ShloMosaic.ix2 b x) * κ (Idealize.ShloMosaic.ix2 x j)) := by
  unfold k1_pay5
  pointwise

theorem pay11_apply (κ : Vec Ideal S512x2048 .f32) (X : Vec Ideal S8x512 .f32) (b : Fin 8) (j : Fin 2048) :
    k1_pay11 κ X (Idealize.ShloMosaic.ix2 b j) = (∑ x : Fin 512, κ (Idealize.ShloMosaic.ix2 x j) * κ (Idealize.ShloMosaic.ix2 x j))
        - Ideal.ofBits .f32 1073741824#32 * ∑ x : Fin 512, X (Idealize.ShloMosaic.ix2 b x) * κ (Idealize.ShloMosaic.ix2 x j) := by
  unfold k1_pay11
  pointwise

theorem row_fDM (b : Fin 8) : row (fDM S E M) b = distRow S E M b := by
  funext j
  show fDM S E M (Idealize.ShloMosaic.ix2 b j) = _
  unfold fDM distRow sqlen dotp
  rw [cols_apply, pay5_apply]
  simp only [yB_apply, fMF_apply]

theorem fNI_apply (b : Fin 8) : fNI S E M (Idealize.ShloMosaic.ix2 b 0) = BitVec.ofNat 32 (near S E M b).val := by
  unfold fNI k1_pay6
  pointwise
  refine (fold_word (row (fDM S E M) b)).trans ?_
  rw [row_fDM]; rfl

theorem pay7_apply (k : ℕ) (hk : k < 8) (b : Fin 8) (j : Fin 512) :
    k1_pay7 (grid1.coords (pt k)) (yB M k) (fNI S E M) (Idealize.ShloMosaic.ix2 j b)
      = if (near S E M b).val / 2048 = k then M (Idealize.ShloMosaic.ix2 (near S E M b) j) else 0 := by
  have hi : ((grid1.coords (pt k)) 1).val = k := (coords1 (pt k)).trans (by show (8 + k % 8) % 8 = k; omega)
  have hn := (near S E M b).isLt
  have hw : ∀ x : Fin 2048, IntOp.cmpi .eq (BitVec.ofNat 32 x.val) (IntOp.subi (BitVec.ofNat 32 (near S E M b).val) (Scalar.muli (BitVec.ofNat 32 k) 2048#32))
      = if (near S E M b).val = 2048 * k + x.val then 1#1 else 0#1 := fun x => by
    have hx := x.isLt
    have e : (BitVec.ofNat 32 x.val = IntOp.subi (BitVec.ofNat 32 (near S E M b).val) (Scalar.muli (BitVec.ofNat 32 k) 2048#32))
        ↔ (near S E M b).val = 2048 * k + x.val := by
      unfold IntOp.subi Scalar.muli IntOp.muli
      rw [← BitVec.toNat_inj]
      simp only [BitVec.toNat_sub, BitVec.toNat_mul, BitVec.toNat_ofNat]
      omega
    show BitVec.ofBool (BitVec.ofNat 32 x.val == _) = _
    by_cases c : (near S E M b).val = 2048 * k + x.val
    · rw [if_pos c, beq_iff_eq.mpr (e.mpr c)]; rfl
    · rw [if_neg c, beq_eq_false_iff_ne.mpr fun h => c (e.mp h)]; rfl
  unfold k1_pay7
  pointwise
  rw [fNI_apply, hi]
  refine (Finset.sum_congr rfl fun x _ => congrArg (fun c => yB M k (Idealize.ShloMosaic.ix2 j x) * hot c) (hw x)).trans ?_
  by_cases c : (near S E M b).val / 2048 = k
  · rw [if_pos c, Finset.sum_eq_single ⟨(near S E M b).val % 2048, Nat.mod_lt _ (by decide)⟩]
    · rw [if_pos (by show _ = 2048 * k + (near S E M b).val % 2048; omega), hot_one, mul_one, ← c, yB_apply]
    · intro x _ h
      rw [if_neg (fun h' => h (Fin.ext (by show x.val = (near S E M b).val % 2048; have := x.isLt; omega))), hot_zero, mul_zero]
    · intro h; exact absurd (Finset.mem_univ _) h
  · rw [if_neg c]
    exact Finset.sum_eq_zero fun x _ => by rw [if_neg (by have := x.isLt; omega), hot_zero, mul_zero]

theorem fNT_apply (k : ℕ) (hk : k < 8) (b : Fin 8) (j : Fin 512) :
    fNT S E M k (Idealize.ShloMosaic.ix2 j b) = if (near S E M b).val / 2048 ≤ k then M (Idealize.ShloMosaic.ix2 (near S E M b) j) else 0 := by
  induction k with
  | zero =>
    unfold fNT k1_pay8
    pointwise
    rw [pay7_apply S E M 0 hk]
    simp only [Nat.le_zero]
  | succ k ih =>
    unfold fNT k1_pay9
    pointwise
    rw [pay7_apply S E M (k + 1) hk, ih (by omega)]
    by_cases c : (near S E M b).val / 2048 ≤ k
    · rw [if_pos c, if_neg (by omega), if_pos (by omega), add_zero]
    · by_cases c' : (near S E M b).val / 2048 = k + 1
      · rw [if_neg c, if_pos c', if_pos (by omega), zero_add]
      · rw [if_neg c, if_neg c', if_neg (by omega), zero_add]

theorem fNN_apply (b : Fin 8) (j : Fin 512) : fNN S E M (Idealize.ShloMosaic.ix2 b j) = M (Idealize.ShloMosaic.ix2 (near S E M b) j) := by
  unfold fNN k1_pay10
  pointwise
  rw [fNT_apply S E M 7 (by decide), if_pos (by have := (near S E M b).isLt; omega)]

theorem row_fKE (b : Fin 8) : row (fKE S E M) b = keyRow S E M b := by
  funext j
  show fKE S E M (Idealize.ShloMosaic.ix2 b j) = _
  unfold fKE keyRow sqlen dotp
  rw [cols_apply, pay11_apply]
  simp only [yB_apply, fNN_apply]

/-- The kernel's prediction. -/
theorem fPR_apply (b : Fin 8) : fPR S E M (Idealize.ShloMosaic.ix2 b 0)
    = softOf (fun r => distRow S E M b (pick (struck (keyRow S E M b) r.val))) (S (Idealize.ShloMosaic.ix2 b (mp S b))) := by
  unfold fPR
  rw [predOf_apply, row_fDM, row_fKE, fSC_apply]

end Chain

end Cert.PredValue

end
-- ==== Proof.PredRef.lean ====
/-
  The reference's prediction, step by step, over the extended reals.
-/
module

public import proofs.«01_k».proof.Proof.PredValue
public import proofs.«01_k».proof.Proof.Gen.ReferenceIdeal.Run
public import proofs.«01_k».proof.Proof.Gen.ReferenceIdeal.Read
public import Idealize.ShloMosaic.Lib.Routing.Ops
public import Idealize.ShloMosaic.Lib.Routing.OpsSearch

@[expose] public section

noncomputable section

namespace Cert.PredRef

open Cert.ReferenceIdeal Cert.ReferenceIdeal.Gen Cert.ReferenceIdeal.Read Cert.PredValue Cert.Picks Cert.TopK
open Idealize.ShloMosaic

/-- The distance's square root reverses no order. -/
theorem sqrt_lt {x y : EReal} (hx : 0 ≤ x) (h : x < y) : Ideal.sqrt x < Ideal.sqrt y := by
  induction x with
  | bot => exact absurd hx (by simp)
  | top => exact absurd h (by simp)
  | coe a =>
    induction y with
    | bot => exact absurd h (by simp)
    | top => rw [Ideal.sqrt_coe, if_neg (not_lt.mpr (EReal.coe_nonneg.mp hx))]; exact EReal.coe_lt_top _
    | coe b =>
      have ha := EReal.coe_nonneg.mp hx
      have hab := EReal.coe_lt_coe_iff.mp h
      rw [Ideal.sqrt_coe, Ideal.sqrt_coe, if_neg (not_lt.mpr ha), if_neg (not_lt.mpr (ha.trans hab.le))]
      exact EReal.coe_lt_coe_iff.mpr (Real.sqrt_lt_sqrt ha hab)

theorem sqrt_lt_iff {x y : EReal} (hx : 0 ≤ x) (hy : 0 ≤ y) : x < y ↔ Ideal.sqrt x < Ideal.sqrt y :=
  ⟨sqrt_lt hx, fun h => not_le.mp fun c => by
    rcases c.lt_or_eq with c | c
    · exact absurd h (not_lt.mpr (sqrt_lt hy c).le)
    · rw [c] at h; exact lt_irrefl _ h⟩

/-- The least squared distance. -/
def eps : EReal := Ideal.ofBits .f32 0x2B8CBCCC#32
theorem eps_pos : 0 < eps := by
  unfold eps
  simp [Ideal.ofBits, Ideal.ieee, -EReal.coe_mul]

/-- A squared distance is the two squared lengths less twice the inner product, in either order. -/
theorem regroup (u v w : EReal) : (u - w) + v = (u + v) - w := by
  show u + -w + v = u + v + -w
  rw [add_assoc, add_comm (-w), add_assoc]

/-- The nine nearest bank rows of the nearest row. -/
def nine (S : Vec Ideal S8x512 .f32) (E : Vec Ideal S4096x512 .f32) (M : Vec Ideal S16384x512 .f32) (b : Fin 8) (r : Fin 9) : Fin 16384 := pick (struck (keyRow S E M b) r.val)

section Chain

variable (E : Vec Ideal S4096x512 .f32) (M : Vec Ideal S16384x512 .f32)

/-- The reference's scores. -/
abbrev sc : Vec Ideal S8x512 .f32 := val_main_v18 (F := Ideal) E M

/-- The clipped squared distance of an embedding row and a bank row. -/
def dist (a : Fin 4096) (j : Fin 16384) : EReal := max eps ((sqlen E a + sqlen M j) - Ideal.ofBits .f32 0x40000000#32 * dotp E M a j)

theorem dist_nonneg (a : Fin 4096) (j : Fin 16384) : 0 ≤ dist E M a j := eps_pos.le.trans (le_max_left _ _)

theorem v36_apply (a : Fin 4096) (j : Fin 16384) : val_main_v36 (F := Ideal) E M (ix2 a j) = - Ideal.sqrt (dist E M a j) := by
  unfold val_main_v36 val_main_v35 val_main_v34 val_main_call1_v1 val_main_call1_v0 val_main_cst_7 val_main_v33 val_main_v32 val_main_v31 val_main_v30 val_main_v29
    val_main_v28 val_main_v27 val_main_cst_6 val_main_v26 val_main_v25 val_main_v24 val_main_v23 val_main_v22 val_main_v21 val_main_v20 val_main_v19 val_main_cst_4 val_main_cst_5
  pointwise
  unfold dist dotp sqlen eps
  rw [← regroup]
  rfl

theorem v37_apply (a : Fin 4096) : val_main_v37 (F := Ideal) E M (ix1 a) = BitVec.ofNat 32 (pick (dist E M a)).val := by
  have h : val_main_v37 (F := Ideal) E M (ix1 a) = val_main_indices (F := Ideal) E M (ix2 a 0) := by
    unfold val_main_v37
    pointwise
  rw [h]
  refine topK_positions (val_main_v36 (F := Ideal) E M) sliceFits_S4096x16384_S4096x1 (by decide) a (σ := fun _ => pick (dist E M a))
    ((first_pick (dist E M a)).least.congr fun i j => ?_) 0
  rw [v36_apply, v36_apply, neg_neg, neg_neg]
  exact sqrt_lt_iff (dist_nonneg E M a i) (dist_nonneg E M a j)

theorem v42_apply (b : Fin 8) : val_main_v42 (F := Ideal) E M (ix1 b) = BitVec.ofNat 32 (gid (sc E M) b).val := by
  have h : val_main_indices_9 (F := Ideal) E M (ix2 b 0) = BitVec.ofNat 32 (mp (sc E M) b).val :=
    topK_positions (sc E M) sliceFits_S8x512_S8x1 (by decide) b (σ := fun _ => mp (sc E M) b) (first_pick fun x => - (sc E M) (ix2 b x)).least 0
  unfold val_main_v42 val_main_v41 val_main_v40 val_main_c val_main_v39 val_main_v38
  pointwise
  rw [h]
  have := b.isLt; have := (mp (sc E M) b).isLt
  unfold IntOp.addi IntOp.muli gid
  apply BitVec.eq_of_toNat_eq
  simp only [BitVec.toNat_add, BitVec.toNat_mul, BitVec.toNat_ofNat]
  omega

theorem call2_apply (b : Fin 8) : val_main_call2_v0 (F := Ideal) E M (ix2 b 0) = BitVec.ofNat 32 (gid (sc E M) b).val := by
  unfold val_main_call2_v0
  pointwise
  exact v42_apply E M b

theorem v43_apply (b : Fin 8) (j : Fin 512) : val_main_v43 (F := Ideal) E M (ix2 b j) = E (ix2 (gid (sc E M) b) j) :=
  Routing.gather_row gather_S4096x512_S8x1_S8x512_1_0_n_n_0_1_1512 rfl rfl rfl rfl rfl E (val_main_call2_v0 (F := Ideal) E M) b j (gid (sc E M) b) (call2_apply E M b) (by norm_num)

theorem v45_apply (b : Fin 8) : val_main_v45 (F := Ideal) E M (ix1 b) = (sc E M) (ix2 b (mp (sc E M) b)) := by
  refine (Routing.take_ap gather_S4096_S8x1_S8_n_0_n_n_0_1_1 rfl rfl rfl rfl (val_main_v44 (F := Ideal) E M) (val_main_call3_v0 (F := Ideal) E M) b
    (gid (sc E M) b).isLt (by have := (gid (sc E M) b).isLt; omega) (call2_apply E M b)).trans ?_
  show val_main_v44 (F := Ideal) E M (ix1 (gid (sc E M) b)) = _
  unfold val_main_v44
  pointwise
  have h : (gid (sc E M) b).val = b.val * 512 + (mp (sc E M) b).val := rfl
  have h2 := (mp (sc E M) b).isLt
  exact congrArg₂ (fun i j => (sc E M) (ix2 i j)) (Fin.ext (by show (gid (sc E M) b).val / 512 = _; omega)) (Fin.ext (by show (gid (sc E M) b).val % 512 = _; omega))

theorem v46_apply (b : Fin 8) : val_main_v46 (F := Ideal) E M (ix1 b) = BitVec.ofNat 32 (near (sc E M) E M b).val :=
  (Routing.take_ap gather_S4096_S8x1_S8_n_0_n_n_0_1_1 rfl rfl rfl rfl (val_main_v37 (F := Ideal) E M) (val_main_call4_v0 (F := Ideal) E M) b
    (gid (sc E M) b).isLt (by have := (gid (sc E M) b).isLt; omega) (call2_apply E M b)).trans (v37_apply E M (gid (sc E M) b))

theorem v47_apply (b : Fin 8) (j : Fin 512) : val_main_v47 (F := Ideal) E M (ix2 b j) = M (ix2 (near (sc E M) E M b) j) :=
  Routing.gather_row gather_S16384x512_S8x1_S8x512_1_0_n_n_0_1_1512 rfl rfl rfl rfl rfl M (val_main_call5_v0 (F := Ideal) E M) b j (near (sc E M) E M b) (by
    unfold val_main_call5_v0
    pointwise
    exact v46_apply E M b) (by norm_num)

/-- The clipped squared distance of two bank rows. -/
def bdist (i j : Fin 16384) : EReal := (sqlen M i - Ideal.ofBits .f32 0x40000000#32 * dotp M M i j) + sqlen M j

theorem v65_apply (b : Fin 8) (j : Fin 16384) : val_main_v65 (F := Ideal) E M (ix2 b j) = - Ideal.sqrt (max eps (bdist M (near (sc E M) E M b) j)) := by
  unfold val_main_v65 val_main_v64 val_main_v63 val_main_call6_v1 val_main_call6_v0 val_main_cst_13 val_main_v62 val_main_v61 val_main_v60 val_main_v59 val_main_v58
    val_main_v57 val_main_v56 val_main_cst_12 val_main_v55 val_main_v54 val_main_v53 val_main_v52 val_main_cst_11 val_main_v51 val_main_v50 val_main_v49 val_main_cst_10 val_main_v48
  pointwise
  simp only [v47_apply]
  rfl

section Least

variable (hL : ∀ b, Least (fun j => max eps (bdist M (near (sc E M) E M b) j)) (nine (sc E M) E M b))
include hL

theorem indices_apply (b : Fin 8) (r : Fin 9) : val_main_indices_15 (F := Ideal) E M (ix2 b r) = BitVec.ofNat 32 (nine (sc E M) E M b r).val := by
  refine topK_positions (val_main_v65 (F := Ideal) E M) sliceFits_S8x16384_S8x9 (by decide) b (σ := nine (sc E M) E M b) ((hL b).congr fun i j => ?_) r
  rw [v65_apply, v65_apply, neg_neg, neg_neg]
  exact sqrt_lt_iff (eps_pos.le.trans (le_max_left _ _)) (eps_pos.le.trans (le_max_left _ _))

theorem v68_apply (b : Fin 8) (r : Fin 9) (j : Fin 512) : val_main_v68 (F := Ideal) E M (ix3 b r j) = M (ix2 (nine (sc E M) E M b r) j) := by
  have hb := b.isLt
  have hr := r.isLt
  have h48 : val_main_v67 (F := Ideal) E M (ix2 (⟨b.val * 9 + r.val, by omega⟩ : Fin 72) j) = M (ix2 (nine (sc E M) E M b r) j) :=
    Routing.gather_row gather_S16384x512_S72x1_S72x512_1_0_n_n_0_1_1512 rfl rfl rfl rfl rfl M (val_main_call7_v0 (F := Ideal) E M) _ j (nine (sc E M) E M b r) (by
      unfold val_main_call7_v0 val_main_v66
      pointwise
      exact indices_apply E M hL b r) (by norm_num)
  unfold val_main_v68
  pointwise
  exact h48

theorem v86_apply (b : Fin 8) (r : Fin 9) : val_main_v86 (F := Ideal) E M (ix2 b r) = Ideal.sqrt (distRow (sc E M) E M b (nine (sc E M) E M b r)) := by
  unfold val_main_v86 val_main_v85 val_main_v84 val_main_call8_v1 val_main_call8_v0 val_main_cst_19 val_main_v83 val_main_v82 val_main_v81 val_main_v80 val_main_v79
    val_main_v78 val_main_cst_18 val_main_v77 val_main_v76 val_main_v75 val_main_v74 val_main_cst_17 val_main_v73 val_main_v72 val_main_v71 val_main_cst_16 val_main_v70 val_main_v69
  pointwise
  simp only [v68_apply E M hL, v43_apply]
  unfold distRow dotp sqlen
  rw [← regroup]
  rfl

/-- The reference's prediction. -/
theorem v103_apply (b : Fin 8) : val_main_v103 (F := Ideal) E M (ix2 b 0)
    = softOf (fun r => distRow (sc E M) E M b (nine (sc E M) E M b r)) ((sc E M) (ix2 b (mp (sc E M) b))) := by
  unfold val_main_v103 val_main_v102 val_main_v101 val_main_v100 val_main_v99 val_main_v98 val_main_cst_23 val_main_v97 val_main_v96 val_main_v95 val_main_v94 val_main_cst_22
    val_main_v93 val_main_v92 val_main_v91 val_main_v90 val_main_v89 val_main_v88 val_main_cst_21 val_main_v87 val_main_cst_20
  pointwise
  simp only [v86_apply E M hL, v45_apply]
  rw [show Ideal.ofBits .f32 4286578688#32 = ⊥ from ofBits_negInf, max_eq_right bot_le]
  rfl

end Least

end Chain

end Cert.PredRef

end
-- ==== Proof.PredEq.lean ====
/-
  The two predictions are equal where different bank rows are apart.
-/
module

public import proofs.«01_k».proof.Proof.PredRef
public import proofs.«01_k».proof.Proof.ScoresEq
public import proofs.«01_k».proof.Proof.Gen.Pre_bank_apart

@[expose] public section

noncomputable section

namespace Cert.PredEq

open Cert.PredValue Cert.PredRef Cert.Picks Cert.TopK
open Idealize.ShloMosaic

variable (S : Vec Ideal Cert.KernelIdeal.S8x512 .f32) (E : Vec Ideal Cert.KernelIdeal.S4096x512 .f32) (M : Vec Ideal Cert.KernelIdeal.S16384x512 .f32)

/-- What the precondition says of two bank rows: their squared distance is zero or more than the clip. -/
theorem apart (h : Cert.Pre_bank_apart.fn (F := Ideal) E M = fun _ => 1#1) (i j : Fin 16384) : bdist M i j = 0 ∨ eps < bdist M i j := by
  have q := congrFun h (ix2 i j)
  unfold Cert.Pre_bank_apart.fn at q
  pointwise at q
  refine or_iff_not_imp_left.mpr fun h0 => not_not.mp fun h1 => ?_
  unfold bdist sqlen dotp at h0 h1
  unfold eps at h1
  rw [decide_eq_false h0, decide_eq_false h1] at q
  exact absurd q (by decide)

theorem mul_self_nonneg' (x : EReal) : 0 ≤ x * x := by
  induction x with
  | bot => simp
  | top => simp
  | coe a => exact EReal.coe_nonneg.mpr (mul_self_nonneg a)

theorem two_eq : Ideal.ofBits .f32 0x40000000#32 = ((2 : ℝ) : EReal) := by
  simp [Ideal.ofBits, Ideal.ieee, -EReal.coe_mul]
  norm_num

theorem sum_real (f : Fin 512 → EReal) (h : ∀ x, ∃ r : ℝ, f x = r) : ∃ r : ℝ, ∑ x, f x = r := by
  classical
  refine Finset.induction_on (motive := fun s => ∃ r : ℝ, ∑ x ∈ s, f x = r) Finset.univ ⟨0, by simp⟩ fun a s ha ih => ?_
  obtain ⟨r, hr⟩ := ih
  obtain ⟨q, hq⟩ := h a
  exact ⟨q + r, by rw [Finset.sum_insert ha, hr, hq]; rfl⟩

section Apart

variable (hA : ∀ i j, bdist M i j = 0 ∨ eps < bdist M i j)
include hA

/-- No bank row has an infinite squared length, or its distance to itself would be minus infinity. -/
theorem sqlen_lt_top (i : Fin 16384) : sqlen M i < ⊤ := by
  refine lt_top_iff_ne_top.mpr fun e => ?_
  have h := hA i i
  have hd : dotp M M i i = ⊤ := e
  have hb : bdist M i i = ⊥ := by
    unfold bdist
    rw [e, hd, two_eq, EReal.coe_mul_top_of_pos (by norm_num), EReal.sub_top, EReal.bot_add]
  rw [hb] at h
  rcases h with h | h
  · exact absurd h (by simp)
  · exact absurd h (by simp)

/-- The bank's entries are finite. -/
theorem entry_real (i : Fin 16384) (x : Fin 512) : ∃ r : ℝ, M (ix2 i x) = r := by
  have hle : M (ix2 i x) * M (ix2 i x) ≤ sqlen M i :=
    Finset.single_le_sum (f := fun x : Fin 512 => M (ix2 i x) * M (ix2 i x)) (fun y _ => mul_self_nonneg' _) (Finset.mem_univ x)
  have hlt := hle.trans_lt (sqlen_lt_top M hA i)
  revert hlt
  generalize M (ix2 i x) = z
  intro hlt
  revert z
  intro (z : EReal) hlt
  induction z with
  | bot => exact absurd hlt (by simp)
  | top => exact absurd hlt (by simp)
  | coe a => exact ⟨a, rfl⟩

theorem dotp_real (i j : Fin 16384) : ∃ r : ℝ, dotp M M i j = r :=
  sum_real _ fun x => by
    obtain ⟨a, ha⟩ := entry_real M hA i x
    obtain ⟨b, hb⟩ := entry_real M hA j x
    exact ⟨a * b, by rw [ha, hb]; rfl⟩

/-- The sort keys are finite, and the clipped squared distances are in their order. -/
theorem key_order (b : Fin 8) : (∀ j, keyRow S E M b j < ⊤) ∧ ∀ i j, keyRow S E M b i < keyRow S E M b j
    ↔ max eps (bdist M (near S E M b) i) < max eps (bdist M (near S E M b) j) := by
  obtain ⟨n, hn⟩ : ∃ n, near S E M b = n := ⟨_, rfl⟩
  obtain ⟨s, hs⟩ := dotp_real M hA n n
  have key : ∀ j, ∃ k : ℝ, keyRow S E M b j = k ∧ bdist M n j = ((s + k : ℝ) : EReal) := fun j => by
    obtain ⟨u, hu⟩ := dotp_real M hA j j
    obtain ⟨w, hw⟩ := dotp_real M hA n j
    refine ⟨u - 2 * w, ?_, ?_⟩
    · show dotp M M j j - Ideal.ofBits .f32 0x40000000#32 * dotp M M (near S E M b) j = _
      rw [hn, hu, hw, two_eq]; rfl
    · show dotp M M n n - Ideal.ofBits .f32 0x40000000#32 * dotp M M n j + dotp M M j j = _
      rw [hs, hu, hw, two_eq, show s + (u - 2 * w) = s - 2 * w + u by ring]; rfl
  refine ⟨fun j => ?_, fun i j => ?_⟩
  · obtain ⟨k, hk, -⟩ := key j
    rw [hk]; exact EReal.coe_lt_top k
  · obtain ⟨k, hk, hd⟩ := key i
    obtain ⟨k', hk', hd'⟩ := key j
    have e : keyRow S E M b i < keyRow S E M b j ↔ bdist M n i < bdist M n j := by
      rw [hk, hk', hd, hd', EReal.coe_lt_coe_iff, EReal.coe_lt_coe_iff]
      exact (add_lt_add_iff_left s).symm
    rw [hn, e]
    refine ⟨fun h => ?_, fun h => not_le.mp fun c => absurd h (not_lt.mpr (max_le_max le_rfl c))⟩
    have h0 : 0 ≤ bdist M n i := (hA n i).elim (fun c => c.ge) fun c => (eps_pos.trans c).le
    have hj : eps < bdist M n j := (hA n j).resolve_left fun c => absurd h (not_lt.mpr (c.trans_le h0))
    rw [max_eq_right hj.le]
    exact max_lt hj h

theorem nine_least (b : Fin 8) : Least (fun j => max eps (bdist M (near S E M b) j)) (nine S E M b) :=
  (least_picks (key_order S E M hA b).1 (by norm_num)).congr (key_order S E M hA b).2

end Apart

/-- From the reference's scores, the kernel's prediction is the reference's. -/
theorem pred_eq (h : Cert.Pre_bank_apart.fn (F := Ideal) E M = fun _ => 1#1) :
    Cert.KernelIdeal.Pred.fPR (sc E M) E M = Cert.ReferenceIdeal.Read.val_main_v103 (F := Ideal) E M := by
  funext i
  obtain ⟨b, rfl⟩ : ∃ b : Fin 8, i = ix2 b 0 := ⟨i 0, funext fun a => by
    fin_cases a
    · rfl
    · exact Fin.ext (by have := (i 1).isLt; show (i 1).val = 0; change (i 1).val < 1 at this; omega)⟩
  exact (fPR_apply (sc E M) E M b).trans (v103_apply E M (nine_least (sc E M) E M (apart E M h)) b).symm

/-- The kernel's prediction is the reference's, as its scores are. -/
theorem result_eq (m : (ℓ : Loc Cert.KernelIdeal.nD Cert.KernelIdeal.τ Cert.KernelIdeal.sig) → Buf (Elt Ideal) ℓ) (c : Dev Cert.KernelIdeal.nD)
    (h : Cert.Pre_bank_apart.fn (F := Ideal) (Cert.KernelIdeal.Pred.argE m c) (Cert.KernelIdeal.Pred.argM m c) = fun _ => 1#1) :
    Cert.KernelIdeal.Pred.outV m c
      = Cert.ReferenceIdeal.Read.val_main_v103 (F := Ideal) (Cert.KernelIdeal.Pred.argE m c) (Cert.KernelIdeal.Pred.argM m c) := by
  refine Eq.trans ?_ (pred_eq _ _ h)
  unfold Cert.KernelIdeal.Pred.outV
  rw [Cert.ScoresValue.result_eq m c]

end Cert.PredEq

end
-- ==== Proof.AloneBody.lean ====
/-
  `ScoresIdeal`'s kernel body, the first call's in a program of its own, run once at any grid point: what it leaves is what
  the first region's body of `KernelIdeal` leaves.
-/
module

public import proofs.«01_k».proof.Proof.ScoresBody
public import proofs.«01_k».proof.Proof.Gen.ScoresIdeal.Frame
public import proofs.«01_k».proof.Proof.Gen.ScoresIdeal.Skeleton
public import Idealize.ShloMosaic.Lib.Pipeline.Frame
public import Idealize.ShloMosaic.Lib.VecWindow
public import Idealize.ShloMosaic.Lib.Tactic

@[expose] public section

set_option maxRecDepth 16384

noncomputable section

namespace Cert.ScoresIdeal.Alone

open Cert.ScoresIdeal Cert.ScoresIdeal.Gen
open Cert.KernelIdeal.Scores (rowGet rowPut ynOf rowOf outOf readCov_row read_put_row readAt_row)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The scratch minima, one row per row block, and the scratch norms of one bank block. -/
abbrev minS : Memref sig .tc .vmem S8x512 .f32 := Memref.whole cc0_scratch0
abbrev ynS : Memref sig .tc .vmem S2048x1 .f32 := Memref.whole cc0_scratch1

/-! ## The branch conditions, by the coordinates -/

theorem cond1_iff (i : grid0.Coords) :
    Scalar.cmpi .ne (Scalar.extui (Scalar.cmpi .eq (BitVec.ofNat 32 (i 1).val) 0#32) : BitVec 32) 0#32 = 1#1 ↔ (i 1).val = 0 :=
  Cert.KernelIdeal.Scores.cond1_iff i
theorem cond2_iff (i : grid0.Coords) : k0_cond2 i = 1#1 ↔ (i 0).val = 0 := Cert.KernelIdeal.Scores.cond2_iff i
theorem cond3_iff (i : grid0.Coords) : k0_cond3 i = 1#1 ↔ (i 0).val ≠ 0 := Cert.KernelIdeal.Scores.cond3_iff i
theorem cond4_iff (i : grid0.Coords) : k0_cond4 i = 1#1 ↔ (i 0).val = 7 := Cert.KernelIdeal.Scores.cond4_iff i
theorem off_eq (i : grid0.Coords) : k0_off1 i = ![(i 1).val, 0] := Cert.KernelIdeal.Scores.off_eq i

set_option maxHeartbeats 1600000 in
/-- The body's triple, for any continuation. -/
theorem kernelRun (c : Dev nD) (i : grid0.Coords) (r : Fin 8) (hr : (i 1).val = r.val)
    (a2 : Memref sig .tc .vmem S2048x512 .f32) (ha2 : a2.IsWhole)
    (a3 : Memref sig .tc .vmem S512x512 .f32) (ha3 : a3.IsWhole)
    (a4 : Memref sig .tc .vmem S1x1x512 .f32) (ha4 : a4.IsWhole)
    (x2 : Vec F S2048x512 .f32) (x3 : Vec F S512x512 .f32) (x4 : Vec F S1x1x512 .f32)
    (s5 : Vec F S8x512 .f32) (s6 : Vec F S2048x1 .f32) (K : PUnit → sProp 𝕄) :
    iprop(owns (c : Thread nD τ) a2 fullShare x2 ∗ owns (c : Thread nD τ) a3 fullShare x3 ∗ owns (c : Thread nD τ) a4 fullShare x4
        ∗ owns (c : Thread nD τ) minS fullShare s5 ∗ owns (c : Thread nD τ) ynS fullShare s6
        ∗ (iprop(owns (c : Thread nD τ) a2 fullShare x2 ∗ owns (c : Thread nD τ) a3 fullShare x3
            ∗ owns (c : Thread nD τ) a4 fullShare (outOf (i 0).val x3 (rowOf (i 0).val x2 x3 (ynOf (i 1).val x2 s6) (rowGet s5 r)) x4)
            ∗ owns (c : Thread nD τ) minS fullShare (rowPut s5 r (rowOf (i 0).val x2 x3 (ynOf (i 1).val x2 s6) (rowGet s5 r)))
            ∗ owns (c : Thread nD τ) ynS fullShare (ynOf (i 1).val x2 s6)) -∗ K ⟨⟩))
      ⊢ wp frame (wpE (defs₀ (F := F)) Variants.none c none) Set.univ
          (cc0__phase1_kernel i a2 ha2 a3 ha3 a4 ha4 minS (Memref.isWhole_whole _) ynS (Memref.isWhole_whole _)) K := by
  have ho : k0_off1 i = ![r.val, 0] := by rw [off_eq, hr]
  have ho2 : k0_off2 i = ![r.val, 0] := ho
  have ho3 : k0_off3 i = ![r.val, 0] := ho
  simp only [cc0__phase1_kernel_eq_skeleton]; unfold cc0__phase1_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  by_cases e1 : (i 1).val = 0 <;> by_cases e0 : (i 0).val = 0 <;> by_cases e7 : (i 0).val = 7
  all_goals first | exact absurd (e0.symm.trans e7) (by decide) | skip
  all_goals
    first | have h1 := (cond1_iff i).mpr e1 | have h1 := (cond1_iff i).not.mpr e1
  all_goals
    first | have h2 := (cond2_iff i).mpr e0 | have h2 := (cond2_iff i).not.mpr e0
  all_goals
    first | have h3 := (cond3_iff i).mpr e0 | have h3 := (cond3_iff i).not.mpr (not_not.mpr e0)
  all_goals
    first | have h4 := (cond4_iff i).mpr e7 | have h4 := (cond4_iff i).not.mpr e7
  all_goals
    first
      | have hy : ynOf (i 1).val x2 s6 = k0_pay2 x2 := if_pos e1
      | have hy : ynOf (i 1).val x2 s6 = s6 := if_neg e1
  all_goals
    first
      | have hrow : ∀ y s, rowOf (i 0).val x2 x3 y s = k0_pay4 x2 x3 y := fun _ _ => if_pos e0
      | have hrow : ∀ y s, rowOf (i 0).val x2 x3 y s = k0_pay5 x2 x3 y s := fun _ _ => if_neg e0
  all_goals
    first
      | have hout : ∀ w, outOf (i 0).val x3 w x4 = k0_pay6 x3 w := fun _ => if_pos e7
      | have hout : ∀ w, outOf (i 0).val x3 w x4 = x4 := fun _ => if_neg e7
  all_goals
    sl_exec
    sl_step
    iapply Hk
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro
      try unfold kernelRun.sl.v25
      try unfold kernelRun.sl.v25_1
      try unfold kernelRun.sl.H5_1
      try unfold kernelRun.sl.H5_1_1
      try unfold kernelRun.sl.v7
      try unfold kernelRun.sl.v7_1
      try unfold kernelRun.sl.v7_2
      try unfold kernelRun.sl.H6_1
      try unfold kernelRun.sl.H6_1_1
      try unfold kernelRun.sl.H6_1_2
      simp -proj -dsimp only [hout, hy, hrow, View.readAt_full, View.read_writes_full, View.readCov_full, readCov_row r ho3 ho2, readCov_row r ho3 ho,
        read_put_row r ho, read_put_row r ho2, readAt_row r ho2, hf2, hf3, hf4, hf5, hf6]
    isplitl [H5]
    · iexists _; isplitr; swap; · iexact H5
      ipureintro
      try unfold kernelRun.sl.v25
      try unfold kernelRun.sl.v25_1
      try unfold kernelRun.sl.H5_1
      try unfold kernelRun.sl.H5_1_1
      try unfold kernelRun.sl.v7
      try unfold kernelRun.sl.v7_1
      try unfold kernelRun.sl.v7_2
      try unfold kernelRun.sl.H6_1
      try unfold kernelRun.sl.H6_1_1
      try unfold kernelRun.sl.H6_1_2
      simp -proj -dsimp only [hout, hy, hrow, View.readAt_full, View.read_writes_full, View.readCov_full, readCov_row r ho3 ho2, readCov_row r ho3 ho,
        read_put_row r ho, read_put_row r ho2, readAt_row r ho2, hf2, hf3, hf4, hf5, hf6]
    · iexists _; isplitr; swap; · iexact H6
      ipureintro
      try unfold kernelRun.sl.v25
      try unfold kernelRun.sl.v25_1
      try unfold kernelRun.sl.H5_1
      try unfold kernelRun.sl.H5_1_1
      try unfold kernelRun.sl.v7
      try unfold kernelRun.sl.v7_1
      try unfold kernelRun.sl.v7_2
      try unfold kernelRun.sl.H6_1
      try unfold kernelRun.sl.H6_1_1
      try unfold kernelRun.sl.H6_1_2
      simp -proj -dsimp only [hout, hy, hrow, View.readAt_full, View.read_writes_full, View.readCov_full, readCov_row r ho3 ho2, readCov_row r ho3 ho,
        read_put_row r ho, read_put_row r ho2, readAt_row r ho2, hf2, hf3, hf4, hf5, hf6]

end Cert.ScoresIdeal.Alone
end
-- ==== Proof.AloneRun.lean ====
/-
  `ScoresIdeal`'s run: the first call, in a program of its own. The scratch between two points and the finished row blocks
  are those of `KernelIdeal`'s first region.
-/
module

public import proofs.«01_k».proof.Proof.AloneBody
public import proofs.«01_k».proof.Proof.ScoresRun
public import proofs.«01_k».proof.Proof.Blocks
public import proofs.«01_k».proof.Proof.LastWrite
public import Idealize.ShloMosaic.Lib.Pipeline.DatRel
public import Idealize.ShloMosaic.Lib.Pipeline.ArrRel
public import Idealize.ShloMosaic.Lib.Pipeline.ValueKit
public import Idealize.ShloMosaic.Lib.Claim

@[expose] public section

set_option maxRecDepth 16384

noncomputable section

namespace Cert.ScoresIdeal.Alone

open Cert.ScoresIdeal Cert.ScoresIdeal.Gen Cert.Blocks
open Cert.KernelIdeal.Scores (chain Inv)
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks the points stage -/

/-- The arguments on core `c`. -/
abbrev argE (c : Dev nD) : Vec F S4096x512 .f32 := m ((c : Thread nD τ).loc main_arg0)
abbrev argM (c : Dev nD) : Vec F S16384x512 .f32 := m ((c : Thread nD τ).loc main_arg1)

theorem coords0 : ∀ t : Fin cfg0.N, (grid0.coords t 0).val = t.val / 8 := (by decide +kernel : ∀ t : Fin grid0.N, _)
theorem coords1 : ∀ t : Fin cfg0.N, (grid0.coords t 1).val = t.val % 8 := (by decide +kernel : ∀ t : Fin grid0.N, _)
theorem idx0 : ∀ t : Fin cfg0.N, win0_0.index t = ![t.val / 8, 0] := (by decide +kernel : ∀ t : Fin grid0.N, _)
theorem idx1 : ∀ t : Fin cfg0.N, win0_1.index t = ![0, t.val % 8] := (by decide +kernel : ∀ t : Fin grid0.N, _)
theorem idx2 : ∀ t : Fin cfg0.N, win0_2.index t = ![t.val % 8, 0, 0] := (by decide +kernel : ∀ t : Fin grid0.N, _)

theorem iblk0 (c : Dev nD) (t : Fin cfg0.N) : iblk m c 0 t = xB (argM m c) (t.val / 8) := by
  have ht := t.isLt
  funext i
  unfold xB xRow
  blk_ext! [iblk, V, idx0 t]
theorem iblk1 (c : Dev nD) (t : Fin cfg0.N) : iblk m c 1 t = zB (argE m c) (t.val % 8) := by
  have ht := t.isLt
  funext i
  unfold zB zRow
  blk_ext! [iblk, V, idx1 t]

/-! ## The proof data -/

/-- The finished row block `r`. -/
def outV (c : Dev nD) (r : ℕ) : Vec F S1x1x512 .f32 := Cert.KernelIdeal.Gen.k0_pay6 (zB (argE m c) r) (chain (argE m c) (argM m c) r 7)

/-- The scratch between two points. -/
def Phi (c : Dev nD) (n : ℕ) : sProp 𝕄 :=
  iprop((∃ s5 s6, ⌜Inv (argE m c) (argM m c) n s5 s6⌝ ∗ owns (c : Thread nD τ) minS fullShare s5 ∗ owns (c : Thread nD τ) ynS fullShare s6)
    ∗ ∃ r, prngReg c r)

/-- The arrays as the region finds them, the input windows left in place, the output window's contents by `outR`. -/
def dats (_ : Fin 1) (c : Dev nD) : Dat τ (Elt F) Unit ℕ (UR sig nD τ) ℕ cfg0 c where
  A w := V m c (Pipeline.arrRef spec0 w)
  after w t :=
    match w with
    | ⟨0, _⟩ => iblk m c 0 t
    | ⟨1, _⟩ => iblk m c 1 t
    | ⟨2, _⟩ => outV m c (t.val % 8)
  Φ t := Phi m c t.val
  q _ := fullShare
  owed _ := 0

/-- The output window is the one whose contents are held to a predicate: at the last bank block, the finished row block. -/
def fgt : Fin cfg0.W → Bool := fun | 0 => false | 1 => false | 2 => true | ⟨_ + 3, h⟩ => absurd h (Nat.not_lt.2 (Nat.le_add_left _ _))
def outR (c : Dev nD) : (w : Fin cfg0.W) → Fin cfg0.N → ((cfg0.win w).block.Idx → Elt F (cfg0.win w).elt) → Prop
  | ⟨2, _⟩, t, X => 56 ≤ t.val → (X : Vec F S1x1x512 .f32) = outV m c (t.val % 8)
  | ⟨0, _⟩, _, _ => True
  | ⟨1, _⟩, _, _ => True

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-! ## The body at a point -/

/-- What the body is called with at point `t`, and what it returns. -/
def bodyPre (c : Dev nD) (t : Fin cfg0.N) : sProp 𝕄 :=
  iprop(Phi m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare d))
def bodyPost (c : Dev nD) (t : Fin cfg0.N) : sProp 𝕄 :=
  iprop(Phi m c (t.val + 1) ∗ (dats m 0 c).owesAt () t.castSucc
    ∗ owns (c : Thread nD τ) (st0_0 t) fullShare ((dats m 0 c).after 0 t)
    ∗ owns (c : Thread nD τ) (st0_1 t) fullShare ((dats m 0 c).after 1 t)
    ∗ (∃ X, ⌜outR m c 2 t X⌝ ∗ owns (c : Thread nD τ) (st0_2 t) fullShare X))

theorem sound_body (c : Dev nD) (t : Fin cfg0.N) :
    bodyPre m c t ⊢ wp frame (wpE (defs₀ (F := F)) Variants.none c none) Set.univ (bodyAt0 t) (fun _ => bodyPost m c t) := by
  have hN : t.val < 64 := t.isLt
  unfold bodyPre bodyPost Phi bodyAt0
  simp only [before_0, before_1, after_0, after_1]
  rw [iblk0, iblk1]
  iintro ⟨⟨⟨%s5, %s6, %hI, H5, H6⟩, Hg⟩, HO, ⟨%d0, H0⟩, ⟨%d1, H1⟩, ⟨%d2, H2⟩⟩
  have hr : (grid0.coords t 1).val = (⟨t.val % 8, Nat.mod_lt _ (by decide)⟩ : Fin 8).val := coords1 t
  iapply (kernelRun c (grid0.coords t) ⟨t.val % 8, Nat.mod_lt _ (by decide)⟩ hr _ _ _ _ _ _ (xB (argM m c) (t.val / 8)) (zB (argE m c) (t.val % 8)) d2 s5 s6 _)
  isplitl [H0]; · iexact H0
  isplitl [H1]; · iexact H1
  isplitl [H2]; · iexact H2
  isplitl [H5]; · iexact H5
  isplitl [H6]; · iexact H6
  rw [coords0, coords1, hI.row ⟨t.val % 8, Nat.mod_lt _ (by decide)⟩ rfl, hI.yn]
  iintro ⟨H0, H1, H2, H5, H6⟩
  isplitl [H5 H6 Hg]
  · isplitl [H5 H6]
    · iexists _, _
      isplitr; swap
      · isplitl [H5]; · iexact H5
        iexact H6
      ipureintro
      exact hI.step ⟨t.val % 8, Nat.mod_lt _ (by decide)⟩ rfl
    iexact Hg
  isplitl [HO]; · iexact HO
  isplitl [H0]; · iexact H0
  isplitl [H1]; · iexact H1
  iexists _
  isplitr; swap
  · iexact H2
  ipureintro
  intro h
  have e : t.val / 8 = 7 := by omega
  rw [e]
  exact if_pos rfl

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligationRel (dats (F := F) m 0 c) (defs₀ (F := F)) Variants.none () Set.univ fgt (outR m c) := fun t => by
  rw [bigSep_W0, bigSep_W0, defs₀_row]
  refine triple_restated (sound_body m c t) rfl ?_ fun _ => .rfl
  refine sep_mono .rfl (sep_mono .rfl (sep_mono .rfl (sep_mono .rfl ?_)))
  dsimp only [fgt]
  iintro ⟨%Y, -, H2⟩
  iexists Y; iexact H2

/-! ## The run -/

theorem hin (c : Dev nD) : Pipeline.ΦA spec0 c ⊢ (dats (F := F) m 0 c).Φ 0 := by
  show iprop(Pipeline.scopedRest spec0 c ∗ ∃ r, prngReg c r) ⊢ Phi m c 0
  rw [scopedRest0_eq]
  unfold Phi
  iintro ⟨⟨⟨%s5, H5⟩, ⟨%s6, H6⟩⟩, Hg⟩
  isplitl [H5 H6]
  · iexists s5, s6
    isplitr
    · ipureintro; exact Inv.zero _ _
    isplitl [H5]
    · simp only [owns_whole]; iexact H5
    · simp only [owns_whole]; iexact H6
  iexact Hg

theorem hout (c : Dev nD) : (dats (F := F) m 0 c).Φ (Fin.last cfg0.N) ⊢ Pipeline.ΦA spec0 c := by
  show Phi m c 64 ⊢ iprop(Pipeline.scopedRest spec0 c ∗ ∃ r, prngReg c r)
  rw [scopedRest0_eq]
  unfold Phi
  iintro ⟨⟨%s5, %s6, -, H5, H6⟩, Hg⟩
  isplitl [H5 H6]
  · isplitl [H5]
    · iexists s5; simp only [owns_whole]; iexact H5
    · iexists s6; simp only [owns_whole]; iexact H6
  iexact Hg

set_option backward.isDefEq.respectTransparency.types false in
/-- Every execution ends, with every counter at zero and the windows' arrays as the relational data say. -/
theorem run_main :
    θ_run defs (onTc (τ := τ) (main (F := F))) (s₀ m ρ)
      (fun r => Pipeline.RDat.FramePost (cfgs 0) (fun c => (dats m 0 c).toRRel fgt (outR m c)) (V m) r ∧ r.2.sem = fun _ => 0) :=
  Pipeline.RDat.θ_run_frame_track (Q' := _) cfgs (0 : Fin 1) launch0 defs₀ Variants.none (fun c => (dats m 0 c).toRRel fgt (outR m c)) m ρ main
    (hbody := fun c => (body_obligation m c).toRRel) (hshare := fun c => (dats m 0 c).share_full fun _ => rfl)
    (howed := fun _ _ => rfl) (V := V m) (hmain := Gen.hmain m Variants.none) (hA := A_eq m) (hin := hin m) (hout := hout m)

/-! ## The result array -/

/-- The result: row `r` is the finished row block `r`. -/
def result (c : Dev nD) : Buf (Elt F) ((c : Thread nD τ).loc main_v1) :=
  fun i : S8x1x512.Idx => outV m c (i 0).val (ValueIdx.ix3 (0 : Fin 1) (0 : Fin 1) (i 2))

/-- An index of the result array is in point `t`'s block when its row is `t % 8`. -/
theorem mem_blk (t : Fin cfg0.N) (i : S8x1x512.Idx) (h : (i 0).val = t.val % 8) : i ∈ ((cfg0.win 2).blk t).view.set := by
  show i ∈ ((View.whole main_v1).slice (win0_2.rect t)).set
  rw [View.set_slice_whole, Rect.mem_set_unit]
  have e : win0_2.index t = ![t.val % 8, 0, 0] := idx2 t
  have h1 : (i 1 : Nat) < 1 := (i 1).isLt
  have h2 : (i 2 : Nat) < 512 := (i 2).isLt
  intro a
  match a with
  | ⟨0, _⟩ =>
    show win0_2.index t 0 * 1 ≤ (i 0 : Nat) ∧ (i 0 : Nat) < win0_2.index t 0 * 1 + 1
    rw [e]; show t.val % 8 * 1 ≤ (i 0 : Nat) ∧ (i 0 : Nat) < t.val % 8 * 1 + 1; omega
  | ⟨1, _⟩ =>
    show win0_2.index t 1 * 1 ≤ (i 1 : Nat) ∧ (i 1 : Nat) < win0_2.index t 1 * 1 + 1
    rw [e]; show 0 * 1 ≤ (i 1 : Nat) ∧ (i 1 : Nat) < 0 * 1 + 1; omega
  | ⟨2, _⟩ =>
    show win0_2.index t 2 * 512 ≤ (i 2 : Nat) ∧ (i 2 : Nat) < win0_2.index t 2 * 512 + 512
    rw [e]; show 0 * 512 ≤ (i 2 : Nat) ∧ (i 2 : Nat) < 0 * 512 + 512; omega

theorem block_result (c : Dev nD) (t : Fin cfg0.N) :
    (cfg0.win 2).cut (grid0.coords t) (outV m c (t.val % 8)) = ((cfg0.win 2).blk t).view.read (Elt F) (result m c) := by
  blk_ext! [result, idx2 t]

theorem final {after} (c : Dev nD) (h : ∀ u : Fin cfg0.N, (cfg0.win 2).flush u = true → outR m c 2 u (after 2 u)) :
    (((dats (F := F) m 0 c).toRRel fgt (outR m c)).withAfter after).arrAt 2 cfg0.N = result m c := by
  refine Cert.LastWrite.arrAt_eq (((dats (F := F) m 0 c).toRRel fgt (outR m c)).withAfter after) 2 (result m c) 56 (fun t ht hf => ?_) fun i => ?_
  · show (cfg0.win 2).cut (grid0.coords t) (after 2 t) = _
    rw [h t hf ht]; exact block_result m c t
  · have h0 : (i 0 : Nat) < 8 := (i 0).isLt
    refine ⟨⟨56 + (i 0 : Nat), by show _ < 64; omega⟩, Nat.le_add_right _ _, flush0_2 _, mem_blk _ _ ?_⟩
    show (i 0 : Nat) = (56 + (i 0 : Nat)) % 8; omega

/-- The run, read: the result array, the arguments and the counters. -/
theorem run : θ_run defs (onTc (τ := τ) (main (F := F))) ⟨m, fun _ => 0, ρ⟩ fun r => (∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (θ_run defs _ _).mono (fun r h => ⟨fun c => by
    refine ⟨?_, ?_, ?_⟩
    · obtain ⟨after, hL, hA⟩ := Pipeline.RDat.FramePost.exists_exact h.1 c
      exact (hA 2).trans (final m c fun u hf => (dats m 0 c).toRRel_leaves rfl (hL 2 u hf))
    · exact ((h.1 c).2 main_arg0 (Pipeline.mem_restRefs_of main_arg0 (by decide) (by decide))).trans (V_main_arg0 m c)
    · exact (Pipeline.RDat.FramePost.arr_in h.1 c 0 rfl).trans (V_main_arg1 m c), h.2⟩) (run_main m ρ)

/-- The same without the result. -/
theorem frame : θ_run defs (onTc (τ := τ) (main (F := F))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (θ_run defs _ _).mono (fun _ h => ⟨fun c => (h.1 c).2, h.2⟩) (run m ρ)

end Cert.ScoresIdeal.Alone
end
-- ==== Proof.AloneFrame.lean ====
/-
  `Scores` and `ScoresIdeal` are one text: the run of the one, at any float type, is the run of the other.
-/
module

public import proofs.«01_k».proof.Proof.AloneRun
public import proofs.«01_k».proof.Proof.Gen.Scores

@[expose] public section

noncomputable section

namespace Cert.Scores.Alone

open Cert.Scores
open Idealize.ShloMosaic Idealize.ShloMosaic.TcCoe Idealize.SL.Sem

variable {F : FTy → Type} [FloatOps F]

theorem kernel_same : cc0__phase1_kernel (F := F) = Cert.ScoresIdeal.cc0__phase1_kernel (F := F) := rfl

theorem defs₀_same : defs₀ (F := F) = Cert.ScoresIdeal.defs₀ (F := F) := by
  unfold Cert.Scores.defs₀ Cert.ScoresIdeal.defs₀
  refine congrArg Defs.onTc ?_
  funext l x
  match l, x with
  | 0, (t, s) =>
    rw [kernel_same]
    rfl

theorem defs_same : defs (F := F) = Cert.ScoresIdeal.defs (F := F) := congrArg (Pipeline.defs pcfgs) defs₀_same

theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)) ∧ r.2.sem = fun _ => 0 := by
  rw [defs_same]
  exact Cert.ScoresIdeal.Alone.frame m ρ

end Cert.Scores.Alone
end
-- ==== Proof.AloneEq.lean ====
/-
  The first call alone: its scores are the reference's, for all arguments.
-/
module

public import proofs.«01_k».proof.Proof.AloneRun
public import proofs.«01_k».proof.Proof.ScoresEq
public import proofs.«01_k».proof.Proof.Gen.ScoresRefIdeal.Run
public import proofs.«01_k».proof.Proof.Gen.ScoresRefIdeal.Read

@[expose] public section

noncomputable section

namespace Cert.AloneEq

open Cert.ScoresRefIdeal Cert.ScoresRefIdeal.Gen Cert.ScoresRefIdeal.Read Cert.Blocks Cert.ScoresValue
open Idealize.ShloMosaic

variable (E : Vec Ideal S4096x512 .f32) (M : Vec Ideal S16384x512 .f32)

/-- The two references' minima over the bank are one. -/
theorem minima_same : val_main_v17 (F := Ideal) E M = Cert.ReferenceIdeal.Read.val_main_v17 (F := Ideal) E M := rfl

/-- The reference's score at row `i 2` of row block `i 0` is the one of the reference of the whole. -/
theorem ref_same (i : S8x1x512.Idx) : val_main_v18 (F := Ideal) E M i = Cert.ReferenceIdeal.Read.val_main_v18 (F := Ideal) E M (ix2 (i 0) (i 2)) := by
  have h0 : (i 0).val < 8 := (i 0).isLt
  have h1 : (i 1).val < 1 := (i 1).isLt
  rw [val_main_v18_apply, Cert.ReferenceIdeal.Read.val_main_v18_apply, minima_same]
  refine congrArg (Cert.ReferenceIdeal.Read.val_main_v17 (F := Ideal) E M) (funext fun a => Fin.ext ?_)
  match a with
  | 0 => show _ = (i 0).val * 512 + (i 2).val; first | rfl | (show ((i 0).val * 1 + (i 1).val) * 512 + (i 2).val = _; omega)

/-- The kernel's scores are the reference's. -/
theorem result_eq (m : (ℓ : Loc Cert.ScoresIdeal.nD Cert.ScoresIdeal.τ Cert.ScoresIdeal.sig) → Buf (Elt Ideal) ℓ) (c : Dev Cert.ScoresIdeal.nD) :
    Cert.ScoresIdeal.Alone.result m c = val_main_v18 (F := Ideal) (Cert.ScoresIdeal.Alone.argE m c) (Cert.ScoresIdeal.Alone.argM m c) := by
  funext i
  rw [ref_same, ref_score]
  refine Eq.trans ?_ (kernel_score (Cert.ScoresIdeal.Alone.argE m c) (Cert.ScoresIdeal.Alone.argM m c) (i 0).val (i 2))
  show Cert.ScoresIdeal.Alone.outV m c (i 0).val (ValueIdx.ix3 (0 : Fin 1) (0 : Fin 1) (i 2)) = Cert.ScoresIdeal.Alone.outV m c (i 0).val (ix3 (0 : Fin 1) (0 : Fin 1) (i 2))
  exact congrArg (Cert.ScoresIdeal.Alone.outV m c (i 0).val) (ix3_eq_valueIdx (n0 := 1) (n1 := 1) (n2 := 512) 0 0 (i 2)).symm

end Cert.AloneEq
end
-- ==== Proof.lean ====
/-
  The claims' proofs, put together.
-/
module

public import proofs.«01_k».proof.Defs
public import proofs.«01_k».proof.Proof.KernelFrame
public import proofs.«01_k».proof.Proof.ScoresEq
public import proofs.«01_k».proof.Proof.PredEq
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_bank_apart
public import proofs.«01_k».proof.Proof.AloneFrame
public import proofs.«01_k».proof.Proof.AloneEq
public import proofs.«01_k».proof.Proof.Gen.Scores
public import proofs.«01_k».proof.Proof.Gen.ScoresIdeal
public import proofs.«01_k».proof.Proof.Gen.ScoresIdeal.Frame
public import proofs.«01_k».proof.Proof.Gen.ScoresIdeal.Skeleton
public import proofs.«01_k».proof.Proof.Gen.ScoresRefIdeal
public import proofs.«01_k».proof.Proof.Gen.ScoresRefIdeal.Run
public import proofs.«01_k».proof.Proof.Gen.ScoresRefIdeal.Read

@[expose] public section

noncomputable section

namespace Cert.Proof

open Idealize.ShloMosaic Idealize.SL.Sem

/-- The reference changes no argument; it declares no semaphore. -/
theorem frame_reference : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)

/-- Both programs end with the reference's scores and prediction, where different bank rows are apart. -/
theorem results_equal : Cert.algebraic_KernelIdeal_ReferenceIdeal_pre_bank_apart := fun m g m' g' hpre hagree =>
  ⟨fun c => Cert.KernelIdeal.Pred.scores m c, fun c => Cert.KernelIdeal.Pred.outV m c,
    (θ_run Cert.KernelIdeal.defs _ _).mono (fun _ h => h.1) (Cert.KernelIdeal.Run.run (F := Ideal) m g),
    (θ_run Cert.ReferenceIdeal.defs _ _).mono
      (fun _ h c => ⟨(h c).1.trans ((Cert.ReferenceIdeal.Read.val_main_v18_eq _).trans
          ((congrArg₂ (Cert.ReferenceIdeal.Read.val_main_v18 (F := Ideal)) (hagree c).1 (hagree c).2).trans (Cert.ScoresValue.result_eq m c).symm)),
        (h c).2.1.trans ((Cert.ReferenceIdeal.Read.val_main_v103_eq _).trans
          ((congrArg₂ (Cert.ReferenceIdeal.Read.val_main_v103 (F := Ideal)) (hagree c).1 (hagree c).2).trans (Cert.PredEq.result_eq m c (hpre c)).symm)),
        (h c).2.2⟩)
      (Cert.ReferenceIdeal.Value.run (F := Ideal) m' g')⟩

/-- The scores' reference changes no argument; it declares no semaphore. -/
theorem frame_scores_reference : Cert.quiescent_ScoresRefIdeal := fun m g _ =>
  (θ_run Cert.ScoresRefIdeal.defs _ _).mono (fun r h => ⟨fun c => (h c).2, sem_eq_zero_of_no_sems (by decide) r.2⟩)
    (Cert.ScoresRefIdeal.Value.run (F := Ideal) m g)

/-- The first call alone and its reference end with the same scores, for all arguments. -/
theorem scores_equal : Cert.algebraic_ScoresIdeal_ScoresRefIdeal := fun m g m' g' _ hagree =>
  ⟨fun c => Cert.ScoresIdeal.Alone.result m c,
    (θ_run Cert.ScoresIdeal.defs _ _).mono (fun _ h => h.1) (Cert.ScoresIdeal.Alone.run (F := Ideal) m g),
    (θ_run Cert.ScoresRefIdeal.defs _ _).mono
      (fun _ h c => ⟨(h c).1.trans (by
        rw [(hagree c).1, (hagree c).2]
        exact (Cert.ScoresRefIdeal.Read.val_main_v18_eq _ _).trans (Cert.AloneEq.result_eq m c).symm), (h c).2⟩)
      (Cert.ScoresRefIdeal.Value.run (F := Ideal) m' g')⟩

theorem claim : Cert.Claim :=
  ⟨Cert.Kernel.Gen.facts, Cert.KernelIdeal.Gen.facts, Cert.ReferenceIdeal.Gen.facts, Cert.Scores.Gen.facts, Cert.ScoresIdeal.Gen.facts,
    Cert.ScoresRefIdeal.Gen.facts, Cert.Pre_bank_apart.Gen.facts,
    fun m g _ => Cert.Kernel.Run.frame m g,
    fun m g _ => Cert.KernelIdeal.Run.frame m g,
    fun m g _ => Cert.KernelIdeal.Run.frame m g,
    frame_reference,
    fun m g _ => frame_reference m g trivial,
    fun m g _ => Cert.Scores.Alone.frame m g,
    fun m g _ => Cert.ScoresIdeal.Alone.frame m g,
    frame_scores_reference,
    trivial, results_equal, trivial, scores_equal⟩

end Cert.Proof

end
